-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_vocabulary_KernelIdeal [hPre_finite_and_in_vocabulary_KernelIdeal : Cert.Pre_finite_and_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_vocabulary_ReferenceIdeal [hPre_finite_and_in_vocabulary_ReferenceIdeal : Cert.Pre_finite_and_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_vocabulary_KernelIdeal [hKernelIdeal : Cert.KernelIdeal.Facts] [hPre_finite_and_in_vocabulary_KernelIdeal : Cert.Pre_finite_and_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_vocabulary_ReferenceIdeal [hReferenceIdeal : Cert.ReferenceIdeal.Facts] [hPre_finite_and_in_vocabulary_ReferenceIdeal : Cert.Pre_finite_and_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_vocabulary_KernelIdeal [hKernelIdeal : Cert.KernelIdeal.Facts] [hReferenceIdeal : Cert.ReferenceIdeal.Facts] [hPre_finite_and_in_vocabulary_KernelIdeal : Cert.Pre_finite_and_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 32768]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_vocabulary_KernelIdeal : Cert.Pre_finite_and_in_vocabulary_KernelIdeal.Facts) (hPre_finite_and_in_vocabulary_ReferenceIdeal : Cert.Pre_finite_and_in_vocabulary_ReferenceIdeal.Facts),
    quiescent_Kernel (hKernel := hKernel)
    ∧ quiescent_KernelIdeal (hKernelIdeal := hKernelIdeal)
    ∧ quiescent_KernelIdeal_pre_finite_and_in_vocabulary_KernelIdeal (hKernelIdeal := hKernelIdeal) (hPre_finite_and_in_vocabulary_KernelIdeal := hPre_finite_and_in_vocabulary_KernelIdeal)
    ∧ quiescent_ReferenceIdeal (hReferenceIdeal := hReferenceIdeal)
    ∧ quiescent_ReferenceIdeal_pre_finite_and_in_vocabulary_ReferenceIdeal (hReferenceIdeal := hReferenceIdeal) (hPre_finite_and_in_vocabulary_ReferenceIdeal := hPre_finite_and_in_vocabulary_ReferenceIdeal)
    ∧ preserves_Kernel_KernelIdeal
    ∧ algebraic_KernelIdeal_ReferenceIdeal_pre_finite_and_in_vocabulary_KernelIdeal (hKernelIdeal := hKernelIdeal) (hReferenceIdeal := hReferenceIdeal) (hPre_finite_and_in_vocabulary_KernelIdeal := hPre_finite_and_in_vocabulary_KernelIdeal)
-- ==== Pre_finite_and_in_vocabulary_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .f32) (main_arg1 : FVec F S1024x8192 .f32) (main_arg2 : IVec S512 32) : IVec S512x1024 1 × IVec S1024x8192 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Pre_finite_and_in_vocabulary_ReferenceIdeal.lean ====
abbrev S512x1024 : Shape := ⟨2, ![512, 1024]⟩
abbrev S1024x32768 : Shape := ⟨2, ![1024, 32768]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)
  bcast_S_S512 : S_.BroadcastsInDim S512 (![] : Fin 0 → Fin S512.rank)

variable [Facts]

def fn {F : FTy → Type} [FloatOps F] (main_arg0 : FVec F S512x1024 .f32) (main_arg1 : FVec F S1024x32768 .f32) (main_arg2 : IVec S512 32) : IVec S512x1024 1 × IVec S1024x32768 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Kernel.lean ====
abbrev S512x1024 : Shape := ⟨2, ![512, 1024]⟩
abbrev S1024x8192 : Shape := ⟨2, ![1024, 8192]⟩
abbrev S512 : Shape := ⟨1, ![512]⟩
abbrev S8 : Shape := ⟨1, ![8]⟩
abbrev S4x2x512 : Shape := ⟨3, ![4, 2, 512]⟩
abbrev S4 : Shape := ⟨1, ![4]⟩
abbrev S_ : Shape := ⟨0, ![]⟩
abbrev S1 : Shape := ⟨1, ![1]⟩
abbrev S1024x1024 : Shape := ⟨2, ![1024, 1024]⟩
abbrev S512x1 : Shape := ⟨2, ![512, 1]⟩
abbrev S1x1x512 : Shape := ⟨3, ![1, 1, 512]⟩
abbrev S1x2x512 : Shape := ⟨3, ![1, 2, 512]⟩
abbrev S2x512 : Shape := ⟨2, ![2, 512]⟩
abbrev S4x1x512 : Shape := ⟨3, ![4, 1, 512]⟩
abbrev S4x512 : Shape := ⟨2, ![4, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S512, .f32⟩
  | .local _ .vmem, ⟨0, _⟩ => ⟨S512x1024, .f32⟩
  | .local _ .vmem, ⟨1, _⟩ => ⟨S512, .i32⟩
  | .local _ .vmem, ⟨2, _⟩ => ⟨S512, .f32⟩
  | .local _ .vmem, ⟨3, _⟩ => ⟨S1024x8192, .f32⟩
  | .local _ .vmem, ⟨4, _⟩ => ⟨S4x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : Index := Scalar.indexCast v2
  let c0_168 : Index := 0#32
  let c0_169 : Index := 0#32
  ![v245.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v249 : Index := Scalar.indexCast v2
  let c1 : Index := 1#32
  let c0_170 : Index := 0#32
  ![v249.toNat, 1, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_183 : BitVec 32 := 0#32
  let c0_i32_184 : BitVec 32 := 0#32
  ![v2.toNat, 0, 0]
def k0_dev4 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_172 : BitVec 32 := 1#32
  let v253 : BitVec 32 := Scalar.addi v2 c1_i32_172
  let c4_i32_173 : BitVec 32 := 4#32
  let c0_i32_174 : BitVec 32 := 0#32
  let v254 : BitVec 1 := Scalar.cmpi .eq c4_i32_173 c0_i32_174
  let c1_i32_175 : BitVec 32 := 1#32
  let v255 : BitVec 32 := Scalar.select v254 c1_i32_175 c4_i32_173
  let v256 : BitVec 32 := Scalar.remsi v253 v255
  let c0_i32_177 : BitVec 32 := 0#32
  let v258 : BitVec 1 := Scalar.cmpi .slt v256 c0_i32_177
  let c0_i32_178 : BitVec 32 := 0#32
  let v259 : BitVec 1 := Scalar.cmpi .slt v255 c0_i32_178
  let v260 : BitVec 1 := Scalar.xori v258 v259
  let c0_i32_176 : BitVec 32 := 0#32
  let v257 : BitVec 1 := Scalar.cmpi .ne v256 c0_i32_176
  let v261 : BitVec 1 := Scalar.andi v260 v257
  let v262 : BitVec 32 := Scalar.addi v256 v255
  let v263 : BitVec 32 := Scalar.select v261 v262 v256
  let c1_i32_181 : BitVec 32 := 1#32
  let v264 : BitVec 32 := Scalar.muli v263 c1_i32_181
  let v265 : BitVec 32 := Scalar.addi c0_i32_182 v264
  v265.toNat
def k0_dev5 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_187 : BitVec 32 := 2#32
  let v274 : BitVec 32 := Scalar.addi v2 c2_i32_187
  let c4_i32_188 : BitVec 32 := 4#32
  let c0_i32_189 : BitVec 32 := 0#32
  let v275 : BitVec 1 := Scalar.cmpi .eq c4_i32_188 c0_i32_189
  let c1_i32_190 : BitVec 32 := 1#32
  let v276 : BitVec 32 := Scalar.select v275 c1_i32_190 c4_i32_188
  let v277 : BitVec 32 := Scalar.remsi v274 v276
  let c0_i32_192 : BitVec 32 := 0#32
  let v279 : BitVec 1 := Scalar.cmpi .slt v277 c0_i32_192
  let c0_i32_193 : BitVec 32 := 0#32
  let v280 : BitVec 1 := Scalar.cmpi .slt v276 c0_i32_193
  let v281 : BitVec 1 := Scalar.xori v279 v280
  let c0_i32_191 : BitVec 32 := 0#32
  let v278 : BitVec 1 := Scalar.cmpi .ne v277 c0_i32_191
  let v282 : BitVec 1 := Scalar.andi v281 v278
  let v283 : BitVec 32 := Scalar.addi v277 v276
  let v284 : BitVec 32 := Scalar.select v282 v283 v277
  let c1_i32_196 : BitVec 32 := 1#32
  let v285 : BitVec 32 := Scalar.muli v284 c1_i32_196
  let v286 : BitVec 32 := Scalar.addi c0_i32_197 v285
  v286.toNat
def k0_dev6 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_202 : BitVec 32 := 3#32
  let v295 : BitVec 32 := Scalar.addi v2 c3_i32_202
  let c4_i32_203 : BitVec 32 := 4#32
  let c0_i32_204 : BitVec 32 := 0#32
  let v296 : BitVec 1 := Scalar.cmpi .eq c4_i32_203 c0_i32_204
  let c1_i32_205 : BitVec 32 := 1#32
  let v297 : BitVec 32 := Scalar.select v296 c1_i32_205 c4_i32_203
  let v298 : BitVec 32 := Scalar.remsi v295 v297
  let c0_i32_207 : BitVec 32 := 0#32
  let v300 : BitVec 1 := Scalar.cmpi .slt v298 c0_i32_207
  let c0_i32_208 : BitVec 32 := 0#32
  let v301 : BitVec 1 := Scalar.cmpi .slt v297 c0_i32_208
  let v302 : BitVec 1 := Scalar.xori v300 v301
  let c0_i32_206 : BitVec 32 := 0#32
  let v299 : BitVec 1 := Scalar.cmpi .ne v298 c0_i32_206
  let v303 : BitVec 1 := Scalar.andi v302 v299
  let v304 : BitVec 32 := Scalar.addi v298 v297
  let v305 : BitVec 32 := Scalar.select v303 v304 v298
  let c1_i32_211 : BitVec 32 := 1#32
  let v306 : BitVec 32 := Scalar.muli v305 c1_i32_211
  let v307 : BitVec 32 := Scalar.addi c0_i32_212 v306
  v307.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512 : Shape := ⟨1, ![512]⟩
abbrev S512x32768 : Shape := ⟨2, ![512, 32768]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512, .i32⟩
  | .hbm, ⟨3, _⟩ => ⟨S512x32768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x32768, .f32⟩
  | .hbm, ⟨8, _⟩ => ⟨S512x32768, .f32⟩
  | .hbm, ⟨9, _⟩ => ⟨S512x32768, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
# The protocol of the distributed loss kernel

Four devices each hold a block of 8192 columns of the weights. A device copies its block from HBM in eight
pieces of 1024 columns, forms two rows of per-token statistics (the sum of the exponentials of its logits, and
the logit of the token's label if that column is its own), writes them in its own slot of a `4 x 2 x 512`
buffer, and sends the slot to the three other devices.

This module states who hands what to whom: the semaphore cells, the schedule of the handshake and of the three
transfers, the contents at every step, the debts at launch and the levels of the waits.

Each device has seven protocol cells: its barrier cell, three receive cells and three send cells (one of each
per distance 1, 2, 3). The device at distance `k` behind signals the barrier and so lends the slot that the
barrier's owner will write.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.LossProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra -/

/-- The duties of a cell are the three distances around the mesh. -/
abbrev UB : Type := URounds (GSem nD τ sig) (Fin 3)
abbrev UU : Type := UR sig nD τ × (UB × Counters)

local notation "𝕄" => MT nD τ sig Bool (Elt F) ℕ UU ℕ

abbrev EP : Emb (UR sig nD τ) (MT nD τ sig Bool (Elt F) ℕ UU ℕ) := embL
/-- The protocol's own component. -/
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb

instance : (ER : Emb UB 𝕄).LandsIn (upEmb : UEmb _ 𝕄) := by unfold ER; infer_instance

variable (m : (ℓ : Loc nD τ sig) → Buf (Elt F) ℓ) (ρ : Dev nD → PrngReg)

/-! ## The mesh -/

/-- The device `k + 1` after `c`, and the one `k + 1` before. -/
def fwd (c : Dev nD) (k : Fin 3) : Dev nD := ⟨(c.val + (k.val + 1)) % 4, Nat.mod_lt _ (by decide)⟩
def bwd (c : Dev nD) (k : Fin 3) : Dev nD := ⟨(c.val + (3 - k.val)) % 4, Nat.mod_lt _ (by decide)⟩

theorem bwd_fwd (c : Dev nD) (k : Fin 3) : bwd (fwd c k) k = c := by revert c k; decide
theorem fwd_bwd (c : Dev nD) (k : Fin 3) : fwd (bwd c k) k = c := by revert c k; decide
theorem fwd_inj (c : Dev nD) : Function.Injective (fwd c) := by revert c; decide

theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 0 := by revert c; decide +kernel
theorem dev5_eq (c : Dev nD) : (⟨k0_dev5 c, k0_dev5_lt c⟩ : Dev nD) = fwd c 1 := by revert c; decide +kernel
theorem dev6_eq (c : Dev nD) : (⟨k0_dev6 c, k0_dev6_lt c⟩ : Dev nD) = fwd c 2 := by revert c; decide +kernel

/-- Going `k + 1` devices on, as a permutation of the mesh. -/
def rot (k : Fin 3) : Dev nD ≃ Dev nD := ⟨fun c => fwd c k, fun c => bwd c k, fun c => bwd_fwd c k, fun c => fwd_bwd c k⟩

/-! ## Memrefs -/

abbrev xM : Memref sig .tc .vmem S512x1024 .f32 := Memref.whole cc0_stg0_0
abbrev labM : Memref sig .tc .vmem S512 .i32 := Memref.whole cc0_stg1_0
abbrev outM : Memref sig .tc .vmem S512 .f32 := Memref.whole cc0_stg2_0
abbrev hbmM : Memref sig .tc .hbm S1024x8192 .f32 := Memref.whole main_arg1
abbrev wM : Memref sig .tc .vmem S1024x8192 .f32 := Memref.whole cc0_scratch0
abbrev commM : Memref sig .tc .vmem S4x2x512 .f32 := Memref.whole cc0_scratch2

/-- The columns of the `k`-th piece of a block of the weights. -/
theorem colInb (k : Fin 8) : ∀ a, (![0, 1024 * k.val] : Fin 2 → Nat) a + S1024x1024.size a ≤ S1024x8192.size a := by revert k; decide
abbrev colRect (k : Fin 8) : Rect S1024x8192 := Rect.unit (s := S1024x8192) ![0, 1024 * k.val] S1024x1024.size (colInb k)
abbrev hbmCol (k : Fin 8) : Memref sig .tc .hbm S1024x1024 .f32 := hbmM.slice (colRect k) (fun _ => rfl)
abbrev wCol (k : Fin 8) : Memref sig .tc .vmem S1024x1024 .f32 := wM.slice (colRect k) (fun _ => rfl)

/-- Device `j`'s slot of the exchange buffer. -/
abbrev slotM (j : Dev nD) : Memref sig .tc .vmem S2x512 .f32 :=
  (commM.slice (Rect.unit (s := S4x2x512) (k0_off3 j) S1x2x512.size (k0_off3_inb j)) (fun _ => rfl)).squeeze S2x512 squeezes_S1x2x512_S2x512
abbrev slotSet (j : Dev nD) : Finset S4x2x512.Idx := (slotM j).view.set

theorem mem_slotSet (j : Dev nD) (i : S4x2x512.Idx) : i ∈ slotSet j ↔ (i 0).val = j.val := by
  unfold slotSet
  simp only [Memref.squeeze, Memref.slice, Memref.view_whole, View.set_reshape, View.set_slice_whole, Rect.mem_set_unit, k0_off3_eq]
  constructor
  · intro h
    have h0 : j.val ≤ (i 0).val ∧ (i 0).val < j.val + 1 := h 0
    omega
  · intro h a
    match a with
    | 0 => show j.val ≤ (i 0).val ∧ (i 0).val < j.val + 1; omega
    | 1 => exact ⟨Nat.zero_le _, (i 1).isLt.trans_le (le_of_eq rfl)⟩
    | 2 => exact ⟨Nat.zero_le _, (i 2).isLt.trans_le (le_of_eq rfl)⟩

theorem slot_disjoint {j j' : Dev nD} (h : j ≠ j') : Disjoint (slotSet j) (slotSet j') :=
  Finset.disjoint_left.mpr fun i hi hi' => h (Fin.ext (((mem_slotSet j i).mp hi).symm.trans ((mem_slotSet j' i).mp hi')))
theorem slot_cover : (Finset.univ : Finset (Dev nD)).biUnion slotSet = Finset.univ :=
  Finset.eq_univ_iff_forall.mpr fun i => Finset.mem_biUnion.mpr ⟨(⟨(i 0).val, (i 0).isLt⟩ : Dev nD), Finset.mem_univ _, (mem_slotSet _ i).mpr rfl⟩

/-! ## Semaphores and cells -/

abbrev barS : Sem sig := (SemArray.scalar (sig.barrier 0 rfl) : Sems sig S_).sem
/-- The receive and send semaphores of the three distances; the semaphores of the eight column copies. -/
abbrev recvS : Fin 3 → DmaSem sig
  | 0 => ((cc0_scratch4.slice (Rect.unit (s := S4) ![1] S1.size inb_S4_S1_1)).squeeze S_ squeezes_S1_S_).sem
  | 1 => ((cc0_scratch4.slice (Rect.unit (s := S4) ![2] S1.size inb_S4_S1_2)).squeeze S_ squeezes_S1_S_).sem
  | 2 => ((cc0_scratch4.slice (Rect.unit (s := S4) ![3] S1.size inb_S4_S1_3)).squeeze S_ squeezes_S1_S_).sem
abbrev sendS : Fin 3 → DmaSem sig
  | 0 => ((cc0_scratch3.slice (Rect.unit (s := S4) ![1] S1.size inb_S4_S1_1)).squeeze S_ squeezes_S1_S_).sem
  | 1 => ((cc0_scratch3.slice (Rect.unit (s := S4) ![2] S1.size inb_S4_S1_2)).squeeze S_ squeezes_S1_S_).sem
  | 2 => ((cc0_scratch3.slice (Rect.unit (s := S4) ![3] S1.size inb_S4_S1_3)).squeeze S_ squeezes_S1_S_).sem
abbrev colS : Fin 8 → DmaSem sig
  | 0 => ((cc0_scratch1.slice (Rect.unit (s := S8) ![0] S1.size inb_S8_S1_0)).squeeze S_ squeezes_S1_S_).sem
  | 1 => ((cc0_scratch1.slice (Rect.unit (s := S8) ![1] S1.size inb_S8_S1_1)).squeeze S_ squeezes_S1_S_).sem
  | 2 => ((cc0_scratch1.slice (Rect.unit (s := S8) ![2] S1.size inb_S8_S1_2)).squeeze S_ squeezes_S1_S_).sem
  | 3 => ((cc0_scratch1.slice (Rect.unit (s := S8) ![3] S1.size inb_S8_S1_3)).squeeze S_ squeezes_S1_S_).sem
  | 4 => ((cc0_scratch1.slice (Rect.unit (s := S8) ![4] S1.size inb_S8_S1_4)).squeeze S_ squeezes_S1_S_).sem
  | 5 => ((cc0_scratch1.slice (Rect.unit (s := S8) ![5] S1.size inb_S8_S1_5)).squeeze S_ squeezes_S1_S_).sem
  | 6 => ((cc0_scratch1.slice (Rect.unit (s := S8) ![6] S1.size inb_S8_S1_6)).squeeze S_ squeezes_S1_S_).sem
  | 7 => ((cc0_scratch1.slice (Rect.unit (s := S8) ![7] S1.size inb_S8_S1_7)).squeeze S_ squeezes_S1_S_).sem

/-- A protocol cell's part: the barrier, or (receive, send) at one of the distances. -/
abbrev Role : Type := Option (Bool × Fin 3)
abbrev csem : Role → SemLoc sig
  | none => .reg barS
  | some (false, k) => .dma (recvS k)
  | some (true, k) => .dma (sendS k)
abbrev roles : List Role := [none, some (false, 0), some (false, 1), some (false, 2), some (true, 0), some (true, 1), some (true, 2)]
theorem roles_nodup : roles.Nodup := by decide
theorem roles_all : ∀ r : Role, r ∈ roles := by decide

theorem csem_injective : Function.Injective csem := by decide

/-- The part a semaphore plays, if it plays one. -/
def roleOf (sm : SemLoc sig) : Option Role := roles.find? fun r => decide (csem r = sm)
theorem roleOf_csem : ∀ r : Role, roleOf (csem r) = some r := by decide

abbrev kcell (cr : Dev nD × Role) : GSem nD τ sig := ((cr.1 : Thread nD τ), csem cr.2)
abbrev barCell (c : Dev nD) : GSem nD τ sig := kcell (c, none)
abbrev recvCell (c : Dev nD) (k : Fin 3) : GSem nD τ sig := kcell (c, some (false, k))
abbrev sendCell (c : Dev nD) (k : Fin 3) : GSem nD τ sig := kcell (c, some (true, k))

theorem kcell_injective : Function.Injective kcell := by
  rintro ⟨c, r⟩ ⟨c', r'⟩ h
  have h1 : c = c' := congrArg (fun g : GSem nD τ sig => g.1.1) h
  have h2 : r = r' := csem_injective (congrArg Prod.snd h)
  rw [h1, h2]

/-- What one slot's transfer credits. -/
abbrev N : ℕ := (slotM 0).view.dmaCredit
theorem N_pos : 0 < N := View.dmaCredit_pos _ (by decide)
theorem N_eq (j : Dev nD) : (slotM j).view.dmaCredit = N := rfl

/-! ## Contents -/

/-- The tokens, the labels and the weights' pieces a device works on, from the memory at launch. -/
def xOf (c : Dev nD) : Vec F S512x1024 .f32 := (win0_0.blk (0 : Fin 1)).view.read (Elt F) (m ((c : Thread nD τ).loc main_arg0))
def labOf (c : Dev nD) : Vec F S512 .i32 := (win0_1.blk (0 : Fin 1)).view.read (Elt F) (m ((c : Thread nD τ).loc main_arg2))
def pieceOf (c : Dev nD) (k : Fin 8) : Vec F S1024x1024 .f32 := (hbmCol k).view.read (Elt F) (m ((c : Thread nD τ).loc main_arg1))

/-- The device's own number as the kernel computes it. -/
def devWord (c : Dev nD) : BitVec 32 := Scalar.remsi (Scalar.divsi (Dev.word c) 1#32) 4#32

/-- The first row of a slot: per token, the sum of the exponentials of the device's logits. -/
def expRow (x : Vec F S512x1024 .f32) (w : Fin 8 → Vec F S1024x1024 .f32) : FVec F S1x1x512 .f32 :=
  k0_pay22 (k0_pay20 (k0_pay14 (k0_pay8 (k0_pay5 (k0_pay2 x) (w 0) x (w 1)) x (w 2)) (k0_pay11 x (w 3)) x (w 4)) x (w 5) x (w 6)) x (w 7)

/-- The second row: per token, the logit of its label's column where the device holds it, else zero. -/
def pickRow (v : BitVec 32) (l : Vec F S512 .i32) (x : Vec F S512x1024 .f32) (w : Fin 8 → Vec F S1024x1024 .f32) : FVec F S1x1x512 .f32 :=
  let io : IVec S512x1024 32 := iota .tc S512x1024 32 [1] iota_S512x1024_d1_w32
  k0_pay23 v (k0_pay1 (F := F) l) io
    (k0_pay17 v (k0_pay1 (F := F) l) io
      (k0_pay15 v (k0_pay1 (F := F) l) io
        (k0_pay9 v (k0_pay1 (F := F) l) io (k0_pay6 v (k0_pay1 (F := F) l) io (k0_pay2 x) (w 0) x (w 1)) x (w 2))
        (k0_pay10 x (w 3)) (k0_pay12 v) x (w 4))
      x (w 5))
    (k0_pay19 v (k0_pay1 (F := F) l) io x (w 6)) x (w 7)

/-- A token's place in a row. -/
def inRow (i : S4x2x512.Idx) : S1x1x512.Idx
  | 0 => ⟨0, Nat.one_pos⟩
  | 1 => ⟨0, Nat.one_pos⟩
  | 2 => i 2

/-- The exchange buffer once every slot has arrived: slot `j` holds device `j`'s two rows. The same on every device. -/
def full : Vec F S4x2x512 .f32 := fun i =>
  let j : Dev nD := ⟨(i 0).val, (i 0).isLt⟩
  if (i 1).val = 0 then expRow (xOf m j) (pieceOf m j) (inRow i)
  else pickRow (devWord j) (labOf m j) (xOf m j) (pieceOf m j) (inRow i)

/-- The loss, from the full exchange buffer. -/
def lossOf : Vec F S512 .f32 := k0_pay24 (full m)

/-! ## Ownership of slots -/

/-- Device `c` owns its copy of slot `j` at the share `q`. -/
def slotPts (c j : Dev nD) (q : PosShare TreeShare) (f : Buf (Elt F) ((slotM j).view.loc (c : Thread nD τ))) : sProp 𝕄 :=
  (slotM j).view.loc (c : Thread nD τ) ↦[(slotM j).view.set]{q} f

instance slotPts_storable (c j : Dev nD) (q) (f) : BI.Storable (upEmb : UEmb _ 𝕄) (slotPts (F := F) c j q f) := by
  unfold slotPts; infer_instance

/-- The share of its own slot that each of the three transfers reads, and the one the device keeps for its own loads. -/
abbrev sh : Fin 3 → PosShare TreeShare
  | 0 => (fullShare : PosShare TreeShare).left.left
  | 1 => (fullShare : PosShare TreeShare).left.right
  | 2 => (fullShare : PosShare TreeShare).right.left
abbrev keep : PosShare TreeShare := (fullShare : PosShare TreeShare).right.right

/-! ## The schedule -/

/-- What a signal at distance `k` lends `c`: the slot of the signaller's buffer that `c` will write. -/
def barPay (c : Dev nD) (k : Fin 3) : sProp 𝕄 := iprop(∃ f, slotPts (F := F) (bwd c k) c fullShare f)
/-- What an arrival at distance `k` hands `c`: the slot of the device it came from, filled. -/
def recvPay (c : Dev nD) (k : Fin 3) : sProp 𝕄 := slotPts c (bwd c k) fullShare (full m)
/-- What a completed send returns: the share of the own slot it read. -/
def sendPay (c : Dev nD) (k : Fin 3) : sProp 𝕄 := slotPts c c (sh k) (full m)

def dutiesOf : Option Role → Finset (Fin 3)
  | some none => Finset.univ
  | some (some _) => {0}
  | none => ∅
def amountOf' : Option Role → ℕ
  | some none => 1
  | _ => N
def payOf (c : Dev nD) (d : Fin 3) : Option Role → sProp 𝕄
  | some none => barPay c d
  | some (some (false, k)) => recvPay m c k
  | some (some (true, k)) => sendPay m c k
  | none => iprop(emp)

/-- One round. A barrier cell has three duties of one unit, a receive or send cell one of a slot's credit. -/
def Rd : Rounds.Schedule (GSem nD τ sig) (Fin 3) 𝕄 where
  duties g r := if r = 0 ∧ g.1.2 = .tc then dutiesOf (roleOf g.2) else ∅
  unitless _ := False
  amount g _ _ := amountOf' (roleOf g.2)
  payload g _ d := payOf m g.1.1 d (roleOf g.2)
  amount_pos g _ _ _ := by
    rcases roleOf g.2 with _ | _ | _
    · exact N_pos
    · exact Nat.one_pos
    · exact N_pos

instance Rd_payload_storable (g : GSem nD τ sig) (r : ℕ) (d : Fin 3) :
    BI.Storable (upEmb : UEmb _ 𝕄) ((Rd (F := F) m).payload g r d) := by
  show BI.Storable upEmb (payOf m g.1.1 d (roleOf g.2))
  rcases roleOf g.2 with _ | _ | ⟨_ | _, k⟩ <;> unfold payOf
  · infer_instance
  · unfold barPay; infer_instance
  · unfold recvPay; infer_instance
  · unfold sendPay; infer_instance

theorem duties_cell (c : Dev nD) (r : Role) : (Rd (F := F) m).duties (kcell (c, r)) 0 = dutiesOf (some r) := by
  dsimp only [Rd]; rw [roleOf_csem]; exact if_pos ⟨rfl, rfl⟩
theorem duties_later (g : GSem nD τ sig) : ∀ r, 1 ≤ r → (Rd (F := F) m).duties g r = ∅ :=
  fun r hr => by dsimp only [Rd]; exact if_neg fun h => by omega
theorem amount_cell (c : Dev nD) (r : Role) (d : Fin 3) : (Rd (F := F) m).amount (kcell (c, r)) 0 d = amountOf' (some r) := by
  dsimp only [Rd]; rw [roleOf_csem]
theorem payload_cell (c : Dev nD) (r : Role) (d : Fin 3) : (Rd (F := F) m).payload (kcell (c, r)) 0 d = payOf m c d (some r) := by
  dsimp only [Rd]; rw [roleOf_csem]

theorem expect_bar (c : Dev nD) : (Rd (F := F) m).expect (barCell c) 0 = 3 := by
  unfold Schedule.expect Schedule.amountOf
  rw [duties_cell, Finset.sum_congr rfl fun d _ => amount_cell m c none d]
  rfl
theorem expect_xfer (c : Dev nD) (x : Bool × Fin 3) : (Rd (F := F) m).expect (kcell (c, some x)) 0 = N := by
  unfold Schedule.expect Schedule.amountOf
  rw [duties_cell]; unfold dutiesOf; rw [Finset.sum_singleton, amount_cell]; rfl

/-- The whole round of a barrier cell: the three slots lent. -/
theorem rest_bar (c : Dev nD) :
    bigSep ((Rd (F := F) m).duties (barCell c) 0 \ ∅) (fun d => (Rd (F := F) m).payload (barCell c) 0 d)
      = iprop(barPay c 0 ∗ barPay c 1 ∗ barPay c 2) := by
  rw [Finset.sdiff_empty, duties_cell]; unfold dutiesOf
  rw [bigSep_univ_eq_bigSepL [0, 1, 2] (by decide) (by decide), bigSepL_cons_cons, bigSepL_cons_cons, bigSepL_singleton,
    payload_cell, payload_cell, payload_cell]
  rfl
theorem rest_xfer (c : Dev nD) (x : Bool × Fin 3) :
    bigSep ((Rd (F := F) m).duties (kcell (c, some x)) 0 \ ∅) (fun d => (Rd (F := F) m).payload (kcell (c, some x)) 0 d)
      = payOf m c 0 (some (some x)) := by
  rw [Finset.sdiff_empty, duties_cell]; unfold dutiesOf; rw [bigSep_singleton, payload_cell]

/-! ## Debts and levels -/

/-- The credit device `c` owes the receive cell, and the unit it owes the barrier cell, at distance `k + 1`. -/
def owedRecv (c : Dev nD) (k : Fin 3) : CellTallies nD τ sig Bool := tallyAt (recvCell (fwd c k) k) true N
def owedBar (c : Dev nD) (k : Fin 3) : CellTallies nD τ sig Bool := tallyAt (barCell (fwd c k)) true 1
/-- What is owed while the three transfers are still to come, and at launch, in the order in which it is paid. -/
def O₁ (c : Dev nD) : CellTallies nD τ sig Bool := owedRecv c 2 + owedRecv c 1 + owedRecv c 0
def O₀ (c : Dev nD) : CellTallies nD τ sig Bool := O₁ c + owedBar c 2 + owedBar c 1 + owedBar c 0

/-- Every TensorCore cell has two indices: `false` for waits on a device's own copies, `true` for the protocol. -/
def L (g : GSem nD τ sig) : Finset Bool := if g.1.2 = .tc then Finset.univ else ∅
def lvOf : Bool → Option Role → ℕ
  | true, some none => 1
  | true, some (some (false, _)) => 2
  | _, _ => 0
/-- A device's own copies are at the bottom; the barrier comes before the arrivals. -/
def lv (g : GSem nD τ sig) (p : Bool) : ℕ := lvOf p (roleOf g.2)

theorem L_of_ne (g : GSem nD τ sig) (h : g.1.2 ≠ .tc) : L g = ∅ := if_neg h
theorem L_tc (c : Dev nD) (sm : SemLoc sig) : L ((c : Thread nD τ), sm) = Finset.univ := if_pos rfl
theorem lv_bar (c : Dev nD) : lv (barCell c) true = 1 := congrArg (lvOf true) (roleOf_csem none)
theorem lv_recv (c : Dev nD) (k : Fin 3) : lv (recvCell c k) true = 2 := congrArg (lvOf true) (roleOf_csem (some (false, k)))

theorem O₁_pos {c : Dev nD} {g : GSem nD τ sig} {u : Bool} (h : 0 < O₁ c g u) : ∃ k, g = recvCell (fwd c k) k ∧ u = true := by
  unfold O₁ owedRecv at h
  simp only [Pi.add_apply, Finsupp.add_apply, tallyAt_apply] at h
  by_contra hn
  rw [not_exists] at hn
  rw [if_neg (hn 0), if_neg (hn 1), if_neg (hn 2)] at h
  exact Nat.lt_irrefl 0 h

theorem O₀_pos {c : Dev nD} {g : GSem nD τ sig} {u : Bool} (h : 0 < O₀ c g u) :
    ∃ k, (g = recvCell (fwd c k) k ∨ g = barCell (fwd c k)) ∧ u = true := by
  by_contra hn
  rw [not_exists] at hn
  have h1 : O₁ c g u = 0 := by
    by_contra h0
    obtain ⟨k, hk, hu⟩ := O₁_pos (Nat.pos_of_ne_zero h0)
    exact hn k ⟨Or.inl hk, hu⟩
  unfold O₀ owedBar at h
  simp only [Pi.add_apply, Finsupp.add_apply, tallyAt_apply] at h
  rw [h1, if_neg (fun h' => hn 2 ⟨Or.inr h'.1, h'.2⟩), if_neg (fun h' => hn 1 ⟨Or.inr h'.1, h'.2⟩), if_neg (fun h' => hn 0 ⟨Or.inr h'.1, h'.2⟩)] at h
  exact Nat.lt_irrefl 0 h

/-- A wait at the bottom index is allowed under any debt whose cells lie above it. -/
theorem mayWait_low (c : Dev nD) (sm : SemLoc sig) {O : CellTallies nD τ sig Bool}
    (hO : ∀ g u, 0 < O g u → g.1.2 = .tc ∧ 0 < lv g u) : (levAts L lv : sProp 𝕄) ⊢ MayWait (c : Thread nD τ) sm false O :=
  MayOwe.of_cut (L := L) (lev := lv) 0 (fun p hp => by rw [Finset.mem_singleton.mp hp, L_tc]; exact Finset.mem_univ _)
    (fun g u hg => by unfold L; rw [if_pos (hO g u hg).1]; exact Finset.mem_univ _)
    (fun p hp => by rw [Finset.mem_singleton.mp hp]; exact le_rfl)
    (fun g u hg => (hO g u hg).2)

theorem above_O₀ (c : Dev nD) (g : GSem nD τ sig) (u : Bool) (h : 0 < O₀ c g u) : g.1.2 = .tc ∧ 0 < lv g u := by
  obtain ⟨k, rfl | rfl, rfl⟩ := O₀_pos h
  · exact ⟨rfl, by rw [lv_recv]; decide⟩
  · exact ⟨rfl, by rw [lv_bar]; decide⟩
theorem above_O₁ (c : Dev nD) (g : GSem nD τ sig) (u : Bool) (h : 0 < O₁ c g u) : g.1.2 = .tc ∧ 0 < lv g u := by
  obtain ⟨k, rfl, rfl⟩ := O₁_pos h
  exact ⟨rfl, by rw [lv_recv]; decide⟩

/-- The waits for the column copies: the transfers are still owed. -/
theorem mayWaits_col (c : Dev nD) : (levAts L lv : sProp 𝕄) ⊢ MayWaits (c : Thread nD τ) (default : Bool) (O₁ c) :=
  MayWaits.intro fun sm => mayWait_low c sm (above_O₁ c)

/-- At the barrier wait a device owes receive cells only, which are above. -/
theorem mayWait_bar (c : Dev nD) : (levAts L lv : sProp 𝕄) ⊢ MayWait (c : Thread nD τ) (.reg barS) true (O₁ c) :=
  MayOwe.of_cut (L := L) (lev := lv) 1 (fun p hp => by rw [Finset.mem_singleton.mp hp, L_tc]; exact Finset.mem_univ _)
    (fun g u hg => by obtain ⟨k, rfl, rfl⟩ := O₁_pos hg; rw [L_tc]; exact Finset.mem_univ _)
    (fun p hp => by rw [Finset.mem_singleton.mp hp]; exact (lv_bar c).le)
    (fun g u hg => by obtain ⟨k, rfl, rfl⟩ := O₁_pos hg; rw [lv_recv]; decide)

end Cert.LossProof

end
-- ==== Proof.Steps.lean ====
/-
# The steps of a device

One lemma for every kind of step the kernel takes: a column copy started or awaited, a signal, the barrier wait,
a slot sent, a slot's arrival or return awaited, and the load of the whole exchange buffer while three shares of
the own slot are still out.
-/
module

public import proofs.«01_k».proof.Proof.Protocol

@[expose] public section

noncomputable section

namespace Cert.LossProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

abbrev 𝒱₀ : Variants := Variants.none

/-! ## The weights' columns -/

/-- The elements of the `k`-th piece. -/
abbrev colSet (k : Fin 8) : Finset S1024x8192.Idx := (wCol k).view.set

theorem mem_col (k : Fin 8) (i : S1024x8192.Idx) : i ∈ colSet k ↔ 1024 * k.val ≤ (i 1).val ∧ (i 1).val < 1024 * k.val + 1024 := by
  unfold colSet
  simp only [Memref.slice, Memref.view_whole, View.set_slice_whole, Rect.mem_set_unit]
  constructor
  · intro h; exact h 1
  · intro h a
    match a with
    | 0 => exact ⟨Nat.zero_le _, (i 0).isLt.trans_le (le_of_eq rfl)⟩
    | 1 => exact h

theorem col_disjoint {k k' : Fin 8} (h : k ≠ k') : Disjoint (colSet k) (colSet k') :=
  Finset.disjoint_left.mpr fun i hi hi' => h (Fin.ext (by
    have h1 := (mem_col k i).mp hi; have h2 := (mem_col k' i).mp hi'; omega))
theorem col_cover : (Finset.univ : Finset (Fin 8)).biUnion colSet = Finset.univ :=
  Finset.eq_univ_iff_forall.mpr fun i => Finset.mem_biUnion.mpr
    ⟨⟨(i 1).val / 1024, Nat.div_lt_of_lt_mul ((i 1).isLt.trans_le (le_of_eq rfl))⟩, Finset.mem_univ _, (mem_col _ i).mpr
      ⟨Nat.mul_div_le _ _, by simp only []; omega⟩⟩
theorem hbmCol_set (k : Fin 8) : (hbmCol k).view.set = colSet k := by
  unfold colSet; simp only [Memref.slice, Memref.view_whole, View.set_slice_whole]

/-- The weights' block in HBM, and the local copy of it, piece by piece. -/
def hbmPts (c : Dev nD) (k : Fin 8) : sProp 𝕄 :=
  (hbmCol k).view.loc (c : Thread nD τ) ↦[(hbmCol k).view.set]{fullShare} (m ((c : Thread nD τ).loc main_arg1))
def wPts (c : Dev nD) (k : Fin 8) (f : Buf (Elt F) ((wCol k).view.loc (c : Thread nD τ))) : sProp 𝕄 :=
  (wCol k).view.loc (c : Thread nD τ) ↦[(wCol k).view.set]{fullShare} f

theorem hbm_split (c : Dev nD) :
    (((c : Thread nD τ).loc main_arg1) ↦{fullShare} (m ((c : Thread nD τ).loc main_arg1)) : sProp 𝕄) = bigSep Finset.univ (hbmPts m c) := by
  have h := pointsTo_biUnion (ℓ := (c : Thread nD τ).loc main_arg1) (q := fullShare) (f := m ((c : Thread nD τ).loc main_arg1))
    (Ix := Bool) (Name := ℕ) (U := UU) (Lvl := ℕ) (Finset.univ : Finset (Fin 8)) colSet (fun k _ k' _ hk => col_disjoint hk)
  refine (congrArg (fun S => (((c : Thread nD τ).loc main_arg1) ↦[S]{fullShare} (m ((c : Thread nD τ).loc main_arg1)) : sProp 𝕄)) col_cover).symm.trans (h.trans ?_)
  exact bigSep_congr fun k _ => by unfold hbmPts; rw [hbmCol_set]
theorem w_split (c : Dev nD) (f : Buf (Elt F) ((c : Thread nD τ).loc cc0_scratch0)) :
    (((c : Thread nD τ).loc cc0_scratch0) ↦{fullShare} f : sProp 𝕄) = bigSep Finset.univ fun k => wPts c k f := by
  have h := pointsTo_biUnion (ℓ := (c : Thread nD τ).loc cc0_scratch0) (q := fullShare) (f := f)
    (Ix := Bool) (Name := ℕ) (U := UU) (Lvl := ℕ) (Finset.univ : Finset (Fin 8)) colSet (fun k _ k' _ hk => col_disjoint hk)
  exact (congrArg (fun S => (((c : Thread nD τ).loc cc0_scratch0) ↦[S]{fullShare} f : sProp 𝕄)) col_cover).symm.trans h

/-- What the copies leave in the local buffer: the block itself. -/
def wFull (c : Dev nD) : Buf (Elt F) ((c : Thread nD τ).loc cc0_scratch0) := m ((c : Thread nD τ).loc main_arg1)

theorem col_written (c : Dev nD) (k : Fin 8) (fd : Buf (Elt F) ((wCol k).view.loc (c : Thread nD τ))) :
    ((wCol k).view.loc (c : Thread nD τ) ↦[(wCol k).view.set]{fullShare}
        ((wCol k).view.write (Elt F) fd ((hbmCol k).view.read (Elt F) (m ((c : Thread nD τ).loc main_arg1))) Finset.univ) : sProp 𝕄)
      = wPts c k (wFull m c) := by
  unfold wPts
  refine pointsTo_congr fun i hi => ?_
  obtain ⟨j, rfl⟩ := View.exists_emb_of_mem_set _ hi
  rw [View.write_emb_of_mem _ _ (Finset.mem_univ j)]
  rfl

theorem col_read (c : Dev nD) (k : Fin 8) : wM.view.readAt (Elt F) (colRect k).toLoadRect (wFull m c) = pieceOf m c k := rfl

/-- A column copy in flight. -/
def colFly (c : Dev nD) (k : Fin 8) : sProp 𝕄 :=
  iprop(∃ fd : Buf (Elt F) ((wCol k).view.loc (c : Thread nD τ)), Flight countersEmb (c : Thread nD τ) (.dma (colS k)) false (wCol k).view.dmaCredit
    iprop(((wCol k).view.loc (c : Thread nD τ) ↦[(wCol k).view.set]{fullShare}
        ((wCol k).view.write (Elt F) fd ((hbmCol k).view.read (Elt F) (m ((c : Thread nD τ).loc main_arg1))) Finset.univ))
      ∗ ((hbmCol k).view.loc (c : Thread nD τ) ↦[(hbmCol k).view.set]{fullShare} (m ((c : Thread nD τ).loc main_arg1)))))

theorem wp_colStart (c : Dev nD) (k : Fin 8) {hsrc : (hbmCol k).view.WordExact} {hdst : (wCol k).view.WordExact}
    {hsem : DmaTarget.Typed .hbm (.dma (colS k)) (DmaTarget.here (nD := nD) (τ := τ) (p := (Proc.tc : Proc τ)) (wCol k))}
    {Q : PUnit → sProp 𝕄} {kk : PUnit → Prog (TpuEff nD τ sig (Elt F) Λ₀ .tc) PUnit} (f : Buf (Elt F) ((wCol k).view.loc (c : Thread nD τ))) :
    iprop(hbmPts m c k ∗ wPts c k f ∗ semVal ((c : Thread nD τ), SemLoc.dma (colS k)) 0)
      ⊢ iprop((colFly m c k -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (hbmCol k) (.here (wCol k)) (.dma (colS k)) hsrc hdst hsem) kk) Q) := by
  unfold hbmPts wPts colFly
  iintro H Hk
  iapply (Transfers.wp_dmaLocal countersEmb 𝒱₀ (c : Thread nD τ) none (src := hbmCol k) (dst := wCol k) (sm := .dma (colS k))
    (via := .same) (Sd := (wCol k).view.set) (fd := f) false (wCol k).view.dmaCredit rfl (View.dmaCredit_pos _ (by decide)) (Finset.Subset.refl _)) $$ H
  iintro Hf
  iapply Hk
  iexists f
  iexact Hf

theorem wp_colWait (c : Dev nD) (k : Fin 8) {hsrc : (hbmCol k).view.WordExact} {hdst : (wCol k).view.WordExact}
    {Q : PUnit → sProp 𝕄} {kk : PUnit → Prog (TpuEff nD τ sig (Elt F) Λ₀ .tc) PUnit} (W : Waits sig Bool) :
    iprop(colFly m c k ∗ owes (c : Thread nD τ) (O₁ c) W ∗ levAts L lv)
      ⊢ iprop(((wPts c k (wFull m c) ∗ hbmPts m c k ∗ semVal ((c : Thread nD τ), SemLoc.dma (colS k)) 0
              ∗ owes (c : Thread nD τ) (O₁ c) (insert (SemLoc.dma (colS k), false) W))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (colS k) (hbmCol k) (wCol k) hsrc hdst) kk) Q) := by
  unfold colFly
  iintro ⟨⟨%fd, Hf⟩, HO, Hlev⟩ Hk
  iapply (Transfers.wp_waitLocalO countersEmb 𝒱₀ (c : Thread nD τ) none (dstw := wCol k) false (N := (wCol k).view.dmaCredit) rfl) $$ [Hf HO Hlev]
  · isplitl [Hf]; · iexact Hf
    isplitl [HO]; · iexact HO
    iapply (mayWait_low c (.dma (colS k)) (above_O₁ c)); iexact Hlev
  iintro ⟨⟨Hw, Hh⟩, Hs, HO⟩
  iapply Hk
  isplitl [Hw]
  · iapply (Entails.of_eq (col_written m c k fd)); iexact Hw
  isplitl [Hh]; · unfold hbmPts; iexact Hh
  isplitl [Hs] <;> iassumption

theorem wp_colLoad (c : Dev nD) (k : Fin 8) {hl : wM.view.LoadsAt (colRect k).toLoadRect}
    {Q : PUnit → sProp 𝕄} {kk : Vec F S1024x1024 .f32 → Prog (TpuEff nD τ sig (Elt F) Λ₀ .tc) PUnit} :
    wPts c k (wFull m c)
      ⊢ iprop((wPts c k (wFull m c) -∗ wp frame (wpE (defs₀ (F := F)) 𝒱₀ (c : Thread nD τ) none) Set.univ (kk (pieceOf m c k)) Q)
          -∗ wp frame (wpE (defs₀ (F := F)) 𝒱₀ (c : Thread nD τ) none) Set.univ (.op (.load wM (colRect k).toLoadRect hl) kk) Q) := by
  unfold wPts
  exact wp_load_rect 𝒱₀ (c : Thread nD τ) none Set.univ (m := wM) (r := colRect k) (Finset.Subset.refl _)

/-! ## Slots -/

abbrev commLoc (c : Dev nD) : Loc nD τ sig := (c : Thread nD τ).loc cc0_scratch2

theorem slotPts_eq (c j : Dev nD) (q) (f : Buf (Elt F) (commLoc c)) : slotPts c j q f = (commLoc c ↦[slotSet j]{q} f : sProp 𝕄) := rfl

/-- The exchange buffer, slot by slot. -/
theorem comm_split (c : Dev nD) (q : PosShare TreeShare) (f : Buf (Elt F) (commLoc c)) :
    (commLoc c ↦{q} f : sProp 𝕄) = bigSep Finset.univ fun j => slotPts c j q f := by
  have h := pointsTo_biUnion (ℓ := commLoc c) (q := q) (f := f)
    (Ix := Bool) (Name := ℕ) (U := UU) (Lvl := ℕ) (Finset.univ : Finset (Dev nD)) slotSet (fun j _ j' _ hj => slot_disjoint hj)
  exact (congrArg (fun S => (commLoc c ↦[S]{q} f : sProp 𝕄)) slot_cover).symm.trans h

theorem devs_fwd (c : Dev nD) : (Finset.univ : Finset (Dev nD)) = [c, fwd c 0, fwd c 1, fwd c 2].toFinset ∧ [c, fwd c 0, fwd c 1, fwd c 2].Nodup := by revert c; decide
theorem devs_bwd (c : Dev nD) : (Finset.univ : Finset (Dev nD)) = [c, bwd c 0, bwd c 1, bwd c 2].toFinset ∧ [c, bwd c 0, bwd c 1, bwd c 2].Nodup := by revert c; decide

theorem comm_fwd (c : Dev nD) (q : PosShare TreeShare) (f : Buf (Elt F) (commLoc c)) :
    (commLoc c ↦{q} f : sProp 𝕄)
      = iprop(slotPts c c q f ∗ slotPts c (fwd c 0) q f ∗ slotPts c (fwd c 1) q f ∗ slotPts c (fwd c 2) q f) := by
  rw [comm_split, bigSep_univ_eq_bigSepL _ (devs_fwd c).1 (devs_fwd c).2]; rfl
theorem comm_bwd (c : Dev nD) (q : PosShare TreeShare) (f : Buf (Elt F) (commLoc c)) :
    (commLoc c ↦{q} f : sProp 𝕄)
      = iprop(slotPts c c q f ∗ slotPts c (bwd c 0) q f ∗ slotPts c (bwd c 1) q f ∗ slotPts c (bwd c 2) q f) := by
  rw [comm_split, bigSep_univ_eq_bigSepL _ (devs_bwd c).1 (devs_bwd c).2]; rfl

/-- A slot held outright is its three shares for the transfers and the share kept. -/
theorem slot_shares (c j : Dev nD) (f : Buf (Elt F) (commLoc c)) :
    (slotPts c j fullShare f : sProp 𝕄) ⊣⊢ iprop(((slotPts c j (sh 0) f) ∗ slotPts c j (sh 1) f) ∗ (slotPts c j (sh 2) f ∗ slotPts c j keep f)) := by
  unfold slotPts
  have h0 := pointsTo_share (ℓ := (slotM j).view.loc (c : Thread nD τ)) (I := (slotM j).view.set) (f := f) (Ix := Bool) (Name := ℕ) (U := UU) (Lvl := ℕ)
    (PosShare.mem_left_op_right (fullShare : PosShare TreeShare))
  have h1 := pointsTo_share (ℓ := (slotM j).view.loc (c : Thread nD τ)) (I := (slotM j).view.set) (f := f) (Ix := Bool) (Name := ℕ) (U := UU) (Lvl := ℕ)
    (PosShare.mem_left_op_right (fullShare : PosShare TreeShare).left)
  have h2 := pointsTo_share (ℓ := (slotM j).view.loc (c : Thread nD τ)) (I := (slotM j).view.set) (f := f) (Ix := Bool) (Name := ℕ) (U := UU) (Lvl := ℕ)
    (PosShare.mem_left_op_right (fullShare : PosShare TreeShare).right)
  exact ⟨h0.1.trans (BI.sep_mono h1.1 h2.1), (BI.sep_mono h1.2 h2.2).trans h0.2⟩

/-- A slot held outright lends the kept share. -/
theorem slot_lend (c j : Dev nD) (f : Buf (Elt F) (commLoc c)) :
    (slotPts c j fullShare f : sProp 𝕄) ⊢ iprop(slotPts c j keep f ∗ (slotPts c j keep f -∗ slotPts c j fullShare f)) := by
  iintro H
  ihave H := (slot_shares c j f).1 $$ H
  icases H with ⟨⟨H0, H1⟩, H2, Hk⟩
  isplitl [Hk]; · iexact Hk
  iintro Hk
  iapply (slot_shares c j f).2
  isplitl [H0 H1]
  · isplitl [H0] <;> iassumption
  isplitl [H2] <;> iassumption

/-- An arriving slot: written over anything with what the full buffer holds there, it holds the full buffer's contents. -/
theorem slot_arrives (c j : Dev nD) (fd : Buf (Elt F) ((slotM j).view.loc (c : Thread nD τ))) :
    ((slotM j).view.loc (c : Thread nD τ) ↦[(slotM j).view.set]{fullShare}
        ((slotM j).view.write (Elt F) fd ((slotM j).view.read (Elt F) (full m)) Finset.univ) : sProp 𝕄)
      = slotPts c j fullShare (full m) := by
  unfold slotPts
  refine pointsTo_congr fun i hi => ?_
  obtain ⟨a, rfl⟩ := View.exists_emb_of_mem_set _ hi
  rw [View.write_emb_of_mem _ _ (Finset.mem_univ a)]
  rfl

/-! ## The persistent records of the launch -/

/-- Every protocol cell's invariant, at its name, and that its round 0 is reached. -/
def records (K : Dev nD × Role → ℕ) : sProp 𝕄 :=
  iprop((bigSep Finset.univ fun cr : Dev nD × Role => cellInv ER (Rd m) (K cr) (kcell cr))
    ∗ bigSep Finset.univ fun cr : Dev nD × Role => reached ER (kcell cr) 0)

instance records_persistent (K : Dev nD × Role → ℕ) : BI.Persistent (records m K) := by unfold records; infer_instance

theorem inv_of (K : Dev nD × Role → ℕ) (cr : Dev nD × Role) : records m K ⊢ cellInv ER (Rd m) (K cr) (kcell cr) := by
  unfold records; exact sep_elim_left.trans (bigSep_elim (Finset.mem_univ cr))
theorem reached_of (K : Dev nD × Role → ℕ) (cr : Dev nD × Role) : records m K ⊢ (reached ER (kcell cr) 0 : sProp 𝕄) := by
  unfold records; exact sep_elim_right.trans (bigSep_elim (Finset.mem_univ cr))

variable (K : Dev nD × Role → ℕ)

/-- A signal at distance `k + 1` pays one unit and lends the slot the other device writes. -/
theorem wp_sig (c n : Dev nD) (k : Fin 3) (hn : n = fwd c k) (O : CellTallies nD τ sig Bool) (W : Waits sig Bool)
    {Q : PUnit → sProp 𝕄} {kk : PUnit → Prog (TpuEff nD τ sig (Elt F) Λ₀ .tc) PUnit} (f : Buf (Elt F) (commLoc c)) {z : ℕ} (hz : z = 1) :
    iprop(records m K ∗ owes (c : Thread nD τ) (O + owedBar c k) W ∗ dutyTok ER (barCell (fwd c k)) 0 k ∗ slotPts c (fwd c k) fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS z) kk) Q) := by
  subst hn hz
  iintro ⟨#HR, HO, Ht, Hs⟩ Hk
  iapply (Rounds.wp_signal 𝒱₀ ER (Rd m) (c : Thread nD τ) none (dst := (fwd c k : Thread nD τ)) (κ := K (fwd c k, none)) (r := 0)
      (d := k) (by rw [duties_cell m (fwd c k) none]; exact Finset.mem_univ _) (amount_cell m (fwd c k) none k) true O rfl) $$ [HO Ht Hs]
  · isplitr; · iapply (inv_of m K (fwd c k, none)); iexact HR
    isplitl [HO]; · iexact HO
    isplitl [Ht]; · iexact Ht
    isplitl [Hs]
    · rw [payload_cell m (fwd c k) none k]; unfold payOf barPay; rw [bwd_fwd]; iexists f; iexact Hs
    iapply (reached_of m K (fwd c k, none)); iexact HR
  iexact Hk

/-- The barrier wait: the three slots this device writes on the others, and the cell, closed, at zero. -/
theorem wp_bar (c : Dev nD) (W : Waits sig Bool) {Q : PUnit → sProp 𝕄} {kk : PUnit → Prog (TpuEff nD τ sig (Elt F) Λ₀ .tc) PUnit} {z : ℕ} (hz : z = 3) :
    iprop(records m K ∗ cred (tallyAt (barCell c) true 3) ∗ owes (c : Thread nD τ) (O₁ c) W ∗ levAts L lv ∗ atPos ER (barCell c) 0 ∅ 0)
      ⊢ iprop(((owes (c : Thread nD τ) (O₁ c) (insert (SemLoc.reg barS, true) W) ∗ semVal (barCell c) 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS z) kk) Q) := by
  subst hz
  iintro ⟨#HR, Hc, HO, Hlev, Hat⟩ Hk
  ihave #HI := (inv_of m K (c, none)) $$ HR
  iapply (Rounds.wp_wait_rest_token 𝒱₀ ER (Rd m) (c : Thread nD τ) none (κ := K (c, none))
      (wpE_semWait_eq 𝒱₀ (c : Thread nD τ) none Set.univ) (Set.mem_univ _) true (O := O₁ c) (W := W) (R := 0) (m := 0) (T := ∅)
      (by rw [Nat.zero_add]; exact (expect_bar m c).symm)) $$ [Hc HO Hlev Hat]
  · isplitr; · iexact HI
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexact HO
  isplitl [Hz]; · iexact Hz
  iexact Hp

theorem arrival_pay (c : Dev nD) (k : Fin 3) :
    (slotPts (fwd c k) c fullShare (full m) : sProp 𝕄) = payOf m (fwd c k) 0 (some (some (false, k))) :=
  congrArg (fun j => (slotPts (fwd c k) j fullShare (full m) : sProp 𝕄)) (bwd_fwd c k).symm

/-- A slot sent at distance `k + 1`. -/
theorem wp_xfer (c n : Dev nD) (k : Fin 3) (hn : n = fwd c k) (O : CellTallies nD τ sig Bool) (W : Waits sig Bool)
    {hsc : (slotM c : Memref sig (Dev.tc n : Thread nD τ).2.kind .vmem S2x512 .f32).view.ref.isScScratch = false}
    {hsrc : (slotM c).view.WordExact} {hdst : (slotM c).view.WordExact}
    {hsem : DmaTarget.Typed .vmem (.dma (recvS k)) (.remote (Dev.tc n : Thread nD τ) (slotM c) (.dma (sendS k)) hsc)}
    {Q : PUnit → sProp 𝕄} {kk : PUnit → Prog (TpuEff nD τ sig (Elt F) Λ₀ .tc) PUnit}
    (fd : Buf (Elt F) ((slotM c).view.loc (fwd c k : Thread nD τ))) :
    iprop(records m K ∗ slotPts c c (sh k) (full m) ∗ slotPts (fwd c k) c fullShare fd ∗ owes (c : Thread nD τ) (O + owedRecv c k) W
        ∗ dutyTok ER (sendCell c k) 0 0 ∗ dutyTok ER (recvCell (fwd c k) k) 0 0)
      ⊢ iprop(((cred (tallyAt (sendCell c k) true N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc n : Thread nD τ) (slotM c) (.dma (sendS k)) hsc) (.dma (recvS k)) hsrc hdst hsem) kk) Q) := by
  subst hn
  unfold slotPts
  iintro ⟨#HR, Hs, Hd, HO, HtS, HtV⟩
  iapply (Rounds.wp_send_pointsTo 𝒱₀ ER (Rd m) (c : Thread nD τ) none (κ₁ := K (c, some (true, k))) (κ₂ := K (fwd c k, some (false, k)))
    (r₁ := 0) (r₂ := 0) (d₁ := 0) (d₂ := 0) (fd := fd)
    (by rw [duties_cell m c (some (true, k))]; exact Finset.mem_singleton_self _)
    (by rw [duties_cell m (fwd c k) (some (false, k))]; exact Finset.mem_singleton_self _)
    true true N rfl (amount_cell m c (some (true, k)) 0) (amount_cell m (fwd c k) (some (false, k)) 0) O rfl (W := W)
    (by rw [payload_cell m c (some (true, k)) 0]; exact BI.Entails.refl _)
    (by rw [payload_cell m (fwd c k) (some (false, k)) 0, slot_arrives]; exact Entails.of_eq (arrival_pay m c k)))
  isplitr; · iapply (inv_of m K (c, some (true, k))); iexact HR
  isplitr; · iapply (inv_of m K (fwd c k, some (false, k))); iexact HR
  isplitl [Hs]; · iexact Hs
  isplitl [Hd]; · iexact Hd
  isplitl [HO]; · iexact HO
  isplitl [HtS]; · iexact HtS
  isplitr; · iapply (reached_of m K (c, some (true, k))); iexact HR
  isplitl [HtV]; · iexact HtV
  iapply (reached_of m K (fwd c k, some (false, k))); iexact HR

/-- The wait on one of the device's own send or receive cells: the payload, and the cell, closed, at zero. -/
theorem wp_xwait (c : Dev nD) (x : Bool × Fin 3) (q : DmaSem sig) (hq : SemLoc.dma q = csem (some x)) (W : Waits sig Bool)
    {hsrc hdst : (slotM c).view.WordExact}
    {Q : PUnit → sProp 𝕄} {kk : PUnit → Prog (TpuEff nD τ sig (Elt F) Λ₀ .tc) PUnit} :
    iprop(records m K ∗ cred (tallyAt (kcell (c, some x)) true N) ∗ owes (c : Thread nD τ) 0 W ∗ atPos ER (kcell (c, some x)) 0 ∅ 0)
      ⊢ iprop(((owes (c : Thread nD τ) 0 (insert (csem (some x), true) W) ∗ payOf m c 0 (some (some x)) ∗ semVal (kcell (c, some x)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q (slotM c) (slotM c) hsrc hdst) kk) Q) := by
  unfold kcell
  rw [← hq]
  have hk : kcell (c, some x) = ((c : Thread nD τ), SemLoc.dma q) := by rw [hq]
  iintro ⟨#HR, Hc, HO, Hat⟩ Hk
  ihave HI := (inv_of m K (c, some x)) $$ HR
  ihave #HI := (Entails.of_eq (congrArg (fun g => (cellInv ER (Rd m) (K (c, some x)) g : sProp 𝕄)) hk)) $$ HI
  iapply (Rounds.wp_wait_rest_token 𝒱₀ ER (Rd m) (c : Thread nD τ) none (κ := K (c, some x))
      (wpE_waitDma2_eq 𝒱₀ (c : Thread nD τ) none Set.univ) (Set.mem_univ _) true (O := 0) (W := W) (R := 0) (m := 0) (T := ∅)
      (by rw [Nat.zero_add, ← hk, expect_xfer])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m) (Set.mem_univ (K (c, some x))) (fun h => h) (R := 0 + 1) (duties_later m ((c : Thread nD τ), SemLoc.dma q))) $$ [Hat] with Hz
  · isplitr; · iexact HI
    iexact Hat
  iapply Hk
  isplitl [HO]; · iexact HO
  isplitl [Hpay]
  · iapply (Entails.of_eq (rest_xfer m c x)); rw [hk]; iexact Hpay
  iexact Hz

/-! ## Writing the own slot -/

/-- Row `r` of slot `j`, at an index known to be in it. -/
theorem row_emb (off : Fin 3 → ℕ) (inb : ∀ a, off a + S1x1x512.size a ≤ S4x2x512.size a) (i : S4x2x512.Idx)
    (h : off = ![(i 0).val, (i 1).val, 0]) : (commM.access (Rect.unit (s := S4x2x512) off S1x1x512.size inb)).emb (inRow i) = i := by
  subst h
  funext a
  refine Fin.ext ?_
  match a with
  | 0 => show (i 0).val + 1 * 0 = (i 0).val; omega
  | 1 => show (i 1).val + 1 * 0 = (i 1).val; omega
  | 2 => show 0 + 1 * (i 2).val = (i 2).val; omega

theorem row_mem (off : Fin 3 → ℕ) (inb : ∀ a, off a + S1x1x512.size a ≤ S4x2x512.size a) (j r : ℕ) (h : off = ![j, r, 0])
    {i : S4x2x512.Idx} (hi : i ∈ (commM.access (Rect.unit (s := S4x2x512) off S1x1x512.size inb)).set) : (i 0).val = j ∧ (i 1).val = r := by
  subst h
  obtain ⟨x, rfl⟩ := View.exists_emb_of_mem_set _ hi
  have h0 : (x 0).val < 1 := (x 0).isLt
  have h1 : (x 1).val < 1 := (x 1).isLt
  exact ⟨show j + 1 * (x 0).val = j by omega, show r + 1 * (x 1).val = r by omega⟩

/-- The views of the two rows of device `c`'s own slot. -/
abbrev row1 (c : Dev nD) := commM.access (Rect.unit (s := S4x2x512) (k0_off1 c) S1x1x512.size (k0_off1_inb c))
abbrev row2 (c : Dev nD) := commM.access (Rect.unit (s := S4x2x512) (k0_off2 c) S1x1x512.size (k0_off2_inb c))

theorem row1_sub (c : Dev nD) : (row1 c).set ⊆ slotSet c :=
  fun i hi => (mem_slotSet c i).2 (row_mem _ _ c.val 0 (k0_off1_eq c) hi).1
theorem row2_sub (c : Dev nD) : (row2 c).set ⊆ slotSet c :=
  fun i hi => (mem_slotSet c i).2 (row_mem _ _ c.val 1 (k0_off2_eq c) hi).1

/-- The two rows written, the own slot holds the full buffer's contents. -/
theorem own_slot (c : Dev nD) (f : Buf (Elt F) (commLoc c)) :
    (commLoc c ↦[slotSet c]{fullShare} (row2 c).write (Elt F)
        ((row1 c).write (Elt F) f (expRow (xOf m c) (pieceOf m c)) Finset.univ)
        (pickRow (devWord c) (labOf m c) (xOf m c) (pieceOf m c)) Finset.univ : sProp 𝕄)
      = slotPts c c fullShare (full m) := by
  unfold slotPts
  refine pointsTo_congr fun i hi => ?_
  have h0 : (i 0).val = c.val := (mem_slotSet c i).1 hi
  have hj : (⟨(i 0).val, (i 0).isLt⟩ : Dev nD) = c := Fin.ext h0
  have h1 : (i 1).val < 2 := (i 1).isLt
  unfold full
  rw [hj]
  by_cases hr : (i 1).val = 0
  · rw [if_pos hr, View.write_of_not_mem (v := row2 c) _ _ _
      (fun h' => by have := (row_mem _ _ c.val 1 (k0_off2_eq c) h').2; omega)]
    have he : (row1 c).emb (inRow i) = i := row_emb _ _ i (by rw [k0_off1_eq, h0, hr])
    exact (congrArg _ he.symm).trans (View.write_emb_of_mem (v := row1 c) f _ (Finset.mem_univ (inRow i)))
  · rw [if_neg hr]
    have he : (row2 c).emb (inRow i) = i := row_emb _ _ i (by rw [k0_off2_eq, h0, show (i 1).val = 1 by omega])
    exact (congrArg _ he.symm).trans (View.write_emb_of_mem (v := row2 c) _ _ (Finset.mem_univ (inRow i)))

end Cert.LossProof

end
-- ==== Proof.Body.lean ====
/-
# The run of one device

The kernel body on a symbolic device, one rule per effect in program order, for any float values.
-/
module

public import proofs.«01_k».proof.Proof.Steps

@[expose] public section

noncomputable section

namespace Cert.LossProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## Finite conjunctions, listed -/

theorem over3 (Φ : Fin 3 → sProp 𝕄) : bigSep Finset.univ Φ = iprop(Φ 0 ∗ Φ 1 ∗ Φ 2) :=
  bigSep_univ_eq_bigSepL [0, 1, 2] (by decide) (by decide) Φ
theorem over8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem overRoles (Φ : Role → sProp 𝕄) : bigSep Finset.univ Φ = iprop(Φ none ∗ Φ (some (false, 0)) ∗ Φ (some (false, 1)) ∗ Φ (some (false, 2))
      ∗ Φ (some (true, 0)) ∗ Φ (some (true, 1)) ∗ Φ (some (true, 2))) :=
  bigSep_univ_eq_bigSepL roles (by decide) (by decide) Φ

/-! ## What a device starts from and ends with -/

/-- The tokens a device pays with: three barrier units, three arrivals, its own three completed sends. -/
def payToks (c : Dev nD) : sProp 𝕄 :=
  iprop((bigSep Finset.univ fun k : Fin 3 => dutyTok ER (barCell (fwd c k)) 0 k)
    ∗ (bigSep Finset.univ fun k : Fin 3 => dutyTok ER (recvCell (fwd c k) k) 0 0)
    ∗ bigSep Finset.univ fun k : Fin 3 => dutyTok ER (sendCell c k) 0 0)

/-- The semaphores outside the protocol: those of the column copies, and the two that the kernel leaves alone. -/
abbrev spareS : Fin 2 → DmaSem sig
  | 0 => ((cc0_scratch3.slice (Rect.unit (s := S4) ![0] S1.size (by decide))).squeeze S_ squeezes_S1_S_).sem
  | 1 => ((cc0_scratch4.slice (Rect.unit (s := S4) ![0] S1.size (by decide))).squeeze S_ squeezes_S1_S_).sem
def freeSems (c : Dev nD) : sProp 𝕄 :=
  iprop((bigSep Finset.univ fun k : Fin 8 => semVal ((c : Thread nD τ), SemLoc.dma (colS k)) 0)
    ∗ semVal ((c : Thread nD τ), SemLoc.dma (spareS 0)) 0 ∗ semVal ((c : Thread nD τ), SemLoc.dma (spareS 1)) 0)

/-- The ghost state of a device: its position at its seven cells, and its tokens. -/
def linear (c : Dev nD) : sProp 𝕄 :=
  iprop((bigSep Finset.univ fun r : Role => atPos ER (kcell (c, r)) 0 ∅ 0) ∗ payToks c ∗ freeSems c)

def creds (c : Dev nD) : sProp 𝕄 :=
  iprop(cred (tallyAt (barCell c) true 3) ∗ bigSep Finset.univ fun k : Fin 3 => cred (tallyAt (recvCell c k) true N))

/-- The device's block of the weights, as at launch. -/
def hbmAll (c : Dev nD) : sProp 𝕄 := ((c : Thread nD τ).loc main_arg1) ↦{fullShare} m ((c : Thread nD τ).loc main_arg1)

def start (c : Dev nD) : sProp 𝕄 := iprop((∃ K, records m K ∗ linear c) ∗ creds c ∗ levAts L lv ∗ hbmAll m c)
/-- The two scratch buffers, at anything. -/
def scratch (c : Dev nD) : sProp 𝕄 :=
  iprop((∃ f, ((c : Thread nD τ).loc cc0_scratch0) ↦{fullShare} f) ∗ (∃ f, commLoc c ↦{fullShare} f))

def Φ₀ (c : Dev nD) : sProp 𝕄 := iprop(start m c ∗ scratch c)
def Φ₁ (c : Dev nD) : sProp 𝕄 :=
  iprop(hbmAll m c ∗ (bigSep Finset.univ fun r : Role => semVal (kcell (c, r)) 0) ∗ freeSems c ∗ scratch c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Bool ℕ UU ℕ cfg0 c where
  A w := (s₀ m ρ).mem ((cfg0.win w).arr.view.loc (c : Thread nD τ))
  after w _ := match w with
    | ⟨0, _⟩ => xOf m c
    | ⟨1, _⟩ => labOf m c
    | ⟨2, _⟩ => lossOf m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Whole-buffer loads and the store -/

section Loads
variable (c : Dev nD)

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

theorem wp_loadX {Q : PUnit → sProp 𝕄} (f : Buf (Elt F) ((c : Thread nD τ).loc cc0_stg0_0)) {hl} {kk : Vec F S512x1024 .f32 → Prog (TpuEff nD τ sig (Elt F) Λ₀ .tc) PUnit} :
    (((c : Thread nD τ).loc cc0_stg0_0) ↦{fullShare} f : sProp 𝕄)
      ⊢ iprop(((((c : Thread nD τ).loc cc0_stg0_0) ↦{fullShare} f) -∗ wp frame (wpE (defs₀ (F := F)) 𝒱₀ (c : Thread nD τ) none) Set.univ (kk f) Q)
          -∗ wp frame (wpE (defs₀ (F := F)) 𝒱₀ (c : Thread nD τ) none) Set.univ
              (.op (.load xM (Rect.unit (s := S512x1024) ![0, 0] S512x1024.size inb_S512x1024_S512x1024_0_0).toLoadRect hl) kk) Q) := by
  have h := wp_load (defs := defs₀ (F := F)) (Ix := Bool) (Name := ℕ) (U := UU) (Lvl := ℕ) (Γ := PendingWaitsCtx.empty) (Q := Q) (k := kk) (hl := hl) 𝒱₀ (c : Thread nD τ) none Set.univ (m := xM)
    (r := (Rect.unit (s := S512x1024) ![0, 0] S512x1024.size inb_S512x1024_S512x1024_0_0).toLoadRect) (q := fullShare) (f := f) (Finset.subset_univ _)
  have e : xM.view.readAt (Elt F) (Rect.unit (s := S512x1024) ![0, 0] S512x1024.size inb_S512x1024_S512x1024_0_0).toLoadRect f = f := Memref.readAt_unit_zero (Elt F) cc0_stg0_0 z2 _ f
  rw [e] at h
  exact h
theorem wp_loadLab {Q : PUnit → sProp 𝕄} (f : Buf (Elt F) ((c : Thread nD τ).loc cc0_stg1_0)) {hl} {kk : Vec F S512 .i32 → Prog (TpuEff nD τ sig (Elt F) Λ₀ .tc) PUnit} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (kk f) Q)
          -∗ wp frame (wpE (defs₀ (F := F)) 𝒱₀ (c : Thread nD τ) none) Set.univ
              (.op (.load labM (Rect.unit (s := S512) ![0] S512.size inb_S512_S512_0).toLoadRect hl) kk) Q) := by
  have h := wp_load (defs := defs₀ (F := F)) (Ix := Bool) (Name := ℕ) (U := UU) (Lvl := ℕ) (Γ := PendingWaitsCtx.empty) (Q := Q) (k := kk) (hl := hl) 𝒱₀ (c : Thread nD τ) none Set.univ (m := labM)
    (r := (Rect.unit (s := S512) ![0] S512.size inb_S512_S512_0).toLoadRect) (q := fullShare) (f := f) (Finset.subset_univ _)
  have e : labM.view.readAt (Elt F) (Rect.unit (s := S512) ![0] S512.size inb_S512_S512_0).toLoadRect f = f := Memref.readAt_unit_zero (Elt F) cc0_stg1_0 z1 _ f
  rw [e] at h
  exact h
theorem wp_loadComm {Q : PUnit → sProp 𝕄} (q : PosShare TreeShare) (f : Buf (Elt F) (commLoc c)) {hl} {kk : Vec F S4x2x512 .f32 → Prog (TpuEff nD τ sig (Elt F) Λ₀ .tc) PUnit} :
    (commLoc c ↦{q} f : sProp 𝕄)
      ⊢ iprop(((commLoc c ↦{q} f) -∗ wp frame (wpE (defs₀ (F := F)) 𝒱₀ (c : Thread nD τ) none) Set.univ (kk f) Q)
          -∗ wp frame (wpE (defs₀ (F := F)) 𝒱₀ (c : Thread nD τ) none) Set.univ
              (.op (.load commM (Rect.unit (s := S4x2x512) ![0, 0, 0] S4x2x512.size inb_S4x2x512_S4x2x512_0_0_0).toLoadRect hl) kk) Q) := by
  have h := wp_load (defs := defs₀ (F := F)) (Ix := Bool) (Name := ℕ) (U := UU) (Lvl := ℕ) (Γ := PendingWaitsCtx.empty) (Q := Q) (k := kk) (hl := hl) 𝒱₀ (c : Thread nD τ) none Set.univ (m := commM)
    (r := (Rect.unit (s := S4x2x512) ![0, 0, 0] S4x2x512.size inb_S4x2x512_S4x2x512_0_0_0).toLoadRect) (q := q) (f := f) (Finset.subset_univ _)
  have e : commM.view.readAt (Elt F) (Rect.unit (s := S4x2x512) ![0, 0, 0] S4x2x512.size inb_S4x2x512_S4x2x512_0_0_0).toLoadRect f = f := Memref.readAt_unit_zero (Elt F) cc0_scratch2 z3 _ f
  rw [e] at h
  exact h
theorem wp_storeOut {Q : PUnit → sProp 𝕄} (f : Buf (Elt F) ((c : Thread nD τ).loc cc0_stg2_0)) (w : Vec F S512 .f32) {h1 h2} {kk : PUnit → Prog (TpuEff nD τ sig (Elt F) Λ₀ .tc) PUnit} :
    (((c : Thread nD τ).loc cc0_stg2_0) ↦{fullShare} f : sProp 𝕄)
      ⊢ iprop(((((c : Thread nD τ).loc cc0_stg2_0) ↦{fullShare} (w : Buf (Elt F) ((c : Thread nD τ).loc cc0_stg2_0))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store outM (Rect.unit (s := S512) ![0] S512.size inb_S512_S512_0) w Finset.univ h1 h2) kk) Q) := by
  have h := wp_store (defs := defs₀ (F := F)) (Ix := Bool) (Name := ℕ) (U := UU) (Lvl := ℕ) (Γ := PendingWaitsCtx.empty) (Q := Q) (k := kk) (hx := h1) (hm := h2) 𝒱₀ (c : Thread nD τ) none Set.univ (m := outM)
    (r := (Rect.unit (s := S512) ![0] S512.size inb_S512_S512_0)) (Mk := Finset.univ) (f := f) (w := w) (Finset.subset_univ _)
  have e : (outM.access (Rect.unit (s := S512) ![0] S512.size inb_S512_S512_0)).write (Elt F) f w Finset.univ = w :=
    Memref.write_access_unit_zero_univ (Elt F) cc0_stg2_0 z1 _ f w
  rw [e] at h
  exact h
end Loads

/-! ## The body -/

section Body
variable (K : Dev nD × Role → ℕ)

/-- The device at distance `k + 1` behind is the one at distance `3 - k` ahead. -/
theorem bwd_ahead (c : Dev nD) (k : Fin 3) : bwd c k = fwd c k.rev := by revert c k; decide

theorem barPay_eq (c : Dev nD) (k : Fin 3) : (barPay c k : sProp 𝕄) = iprop(∃ f, slotPts (F := F) (fwd c k.rev) c fullShare f) := by
  unfold barPay; rw [bwd_ahead]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((records m K ∗ linear c) ∗ creds c ∗ levAts L lv ∗ hbmAll m c ∗ scratch c)
    ∗ (dats m ρ 0 c).owesAt false t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt false t₀.succ ∗ stg c cc0_stg0_0 (xOf m c) ∗ stg c cc0_stg1_0 (labOf m c) ∗ stg c cc0_stg2_0 (lossOf m))

set_option maxHeartbeats 4000000 in
set_option maxRecDepth 65536 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole main_arg1) (Memref.isWhole_whole _)
            (Memref.whole cc0_stg1_0) (Memref.isWhole_whole _) (Memref.whole cc0_stg2_0) (Memref.isWhole_whole _)
            (Memref.whole cc0_scratch0) (Memref.isWhole_whole _) cc0_scratch1 (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [semSignalWord, semWaitWord, Prog.lift, Prog.bind_op, Prog.bind_ret, Prog.pure_eq_ret, wp_deviceId]
  unfold bodyPre linear creds scratch payToks freeSems hbmAll
  simp only [overRoles, over3, over8]
  iintro ⟨⟨⟨⟨#HR, ⟨HatB, HatR0, HatR1, HatR2, HatS0, HatS1, HatS2⟩, ⟨⟨HtB0, HtB1, HtB2⟩, ⟨HtR0, HtR1, HtR2⟩, ⟨HtS0, HtS1, HtS2⟩⟩,
      ⟨Hc0, Hc1, Hc2, Hc3, Hc4, Hc5, Hc6, Hc7⟩, Hf0, Hf1⟩,
      ⟨HcB, HcR0, HcR1, HcR2⟩, #Hlev, Hhbm, ⟨%fw, Hw⟩, ⟨%fc, Hcomm⟩⟩,
    Ho, ⟨%d0, %g0, %hg0, Hx⟩, ⟨%d1, %g1, %hg1, Hlab⟩, ⟨%d2, %g2, %hg2, Hout⟩⟩, Hk⟩
  have hx : g0 = xOf m c := by rw [hg0]; unfold Dat.before; rw [if_pos (fetch0_0 t₀)]; rfl
  subst hx
  have hl : g1 = labOf m c := by rw [hg1]; unfold Dat.before; rw [if_pos (fetch0_1 t₀)]; rfl
  subst hl
  unfold Dat.owesAt Pipeline.owesWithin
  icases Ho with ⟨%W, %hW, HO⟩
  rw [show (dats m ρ 0 c).owed t₀.castSucc = O₀ c from rfl]
  -- the buffers, piece by piece
  ihave Hhbm := (Entails.of_eq (hbm_split m c)) $$ Hhbm
  ihave Hw := (Entails.of_eq (w_split c fw)) $$ Hw
  ihave Hcomm := (Entails.of_eq (comm_fwd c fullShare fc)) $$ Hcomm
  ihave Hhbm := (Entails.of_eq (over8 _)) $$ Hhbm
  ihave Hw := (Entails.of_eq (over8 _)) $$ Hw
  icases Hhbm with ⟨Hh0, Hh1, Hh2, Hh3, Hh4, Hh5, Hh6, Hh7⟩
  icases Hw with ⟨Hw0, Hw1, Hw2, Hw3, Hw4, Hw5, Hw6, Hw7⟩
  icases Hcomm with ⟨Hown, Hl0, Hl1, Hl2⟩
  -- the three signals
  iapply (wp_sig m K c _ 0 (dev1_eq c) (O₁ c + owedBar c 2 + owedBar c 1) W fc (z := _) rfl) $$ [HO HtB0 Hl0]
  · isplitr; · iexact HR
    isplitl [HO]; · iexact HO
    isplitl [HtB0] <;> iassumption
  iintro HO
  iapply (wp_sig m K c _ 1 (dev2_eq c) (O₁ c + owedBar c 2) W fc (z := _) rfl) $$ [HO HtB1 Hl1]
  · isplitr; · iexact HR
    isplitl [HO]; · iexact HO
    isplitl [HtB1] <;> iassumption
  iintro HO
  iapply (wp_sig m K c _ 2 (dev3_eq c) (O₁ c) W fc (z := _) rfl) $$ [HO HtB2 Hl2]
  · isplitr; · iexact HR
    isplitl [HO]; · iexact HO
    isplitl [HtB2] <;> iassumption
  iintro HO
  -- the eight copies start
  iapply (wp_colStart m c 0 fw) $$ [Hh0 Hw0 Hc0]
  · isplitl [Hh0]; · iexact Hh0
    isplitl [Hw0] <;> iassumption
  iintro Hf0'
  iapply (wp_colStart m c 1 fw) $$ [Hh1 Hw1 Hc1]
  · isplitl [Hh1]; · iexact Hh1
    isplitl [Hw1] <;> iassumption
  iintro Hf1'
  iapply (wp_colStart m c 2 fw) $$ [Hh2 Hw2 Hc2]
  · isplitl [Hh2]; · iexact Hh2
    isplitl [Hw2] <;> iassumption
  iintro Hf2'
  iapply (wp_colStart m c 3 fw) $$ [Hh3 Hw3 Hc3]
  · isplitl [Hh3]; · iexact Hh3
    isplitl [Hw3] <;> iassumption
  iintro Hf3'
  iapply (wp_colStart m c 4 fw) $$ [Hh4 Hw4 Hc4]
  · isplitl [Hh4]; · iexact Hh4
    isplitl [Hw4] <;> iassumption
  iintro Hf4'
  iapply (wp_colStart m c 5 fw) $$ [Hh5 Hw5 Hc5]
  · isplitl [Hh5]; · iexact Hh5
    isplitl [Hw5] <;> iassumption
  iintro Hf5'
  iapply (wp_colStart m c 6 fw) $$ [Hh6 Hw6 Hc6]
  · isplitl [Hh6]; · iexact Hh6
    isplitl [Hw6] <;> iassumption
  iintro Hf6'
  iapply (wp_colStart m c 7 fw) $$ [Hh7 Hw7 Hc7]
  · isplitl [Hh7]; · iexact Hh7
    isplitl [Hw7] <;> iassumption
  iintro Hf7'
  iapply (wp_loadLab c (labOf m c)) $$ Hlab; iintro Hlab
  iapply (wp_colWait m c 0 (W)) $$ [Hf0' HO]
  · isplitl [Hf0']; · iexact Hf0'
    isplitl [HO]; · iexact HO
    iexact Hlev
  iintro ⟨Hw0, Hh0, Hc0, HO⟩
  iapply (wp_loadX c (xOf m c)) $$ Hx; iintro Hx
  iapply (wp_colLoad m c 0) $$ Hw0; iintro Hw0
  iapply (wp_colWait m c 1 (insert (SemLoc.dma (colS 0), false) (W))) $$ [Hf1' HO]
  · isplitl [Hf1']; · iexact Hf1'
    isplitl [HO]; · iexact HO
    iexact Hlev
  iintro ⟨Hw1, Hh1, Hc1, HO⟩
  iapply (wp_loadX c (xOf m c)) $$ Hx; iintro Hx
  iapply (wp_colLoad m c 1) $$ Hw1; iintro Hw1
  iapply (wp_colWait m c 2 (insert (SemLoc.dma (colS 1), false) (insert (SemLoc.dma (colS 0), false) (W)))) $$ [Hf2' HO]
  · isplitl [Hf2']; · iexact Hf2'
    isplitl [HO]; · iexact HO
    iexact Hlev
  iintro ⟨Hw2, Hh2, Hc2, HO⟩
  iapply (wp_loadX c (xOf m c)) $$ Hx; iintro Hx
  iapply (wp_colLoad m c 2) $$ Hw2; iintro Hw2
  iapply (wp_colWait m c 3 (insert (SemLoc.dma (colS 2), false) (insert (SemLoc.dma (colS 1), false) (insert (SemLoc.dma (colS 0), false) (W))))) $$ [Hf3' HO]
  · isplitl [Hf3']; · iexact Hf3'
    isplitl [HO]; · iexact HO
    iexact Hlev
  iintro ⟨Hw3, Hh3, Hc3, HO⟩
  iapply (wp_loadX c (xOf m c)) $$ Hx; iintro Hx
  iapply (wp_colLoad m c 3) $$ Hw3; iintro Hw3
  iapply (wp_colWait m c 4 (insert (SemLoc.dma (colS 3), false) (insert (SemLoc.dma (colS 2), false) (insert (SemLoc.dma (colS 1), false) (insert (SemLoc.dma (colS 0), false) (W)))))) $$ [Hf4' HO]
  · isplitl [Hf4']; · iexact Hf4'
    isplitl [HO]; · iexact HO
    iexact Hlev
  iintro ⟨Hw4, Hh4, Hc4, HO⟩
  iapply (wp_loadX c (xOf m c)) $$ Hx; iintro Hx
  iapply (wp_colLoad m c 4) $$ Hw4; iintro Hw4
  iapply (wp_colWait m c 5 (insert (SemLoc.dma (colS 4), false) (insert (SemLoc.dma (colS 3), false) (insert (SemLoc.dma (colS 2), false) (insert (SemLoc.dma (colS 1), false) (insert (SemLoc.dma (colS 0), false) (W))))))) $$ [Hf5' HO]
  · isplitl [Hf5']; · iexact Hf5'
    isplitl [HO]; · iexact HO
    iexact Hlev
  iintro ⟨Hw5, Hh5, Hc5, HO⟩
  iapply (wp_loadX c (xOf m c)) $$ Hx; iintro Hx
  iapply (wp_colLoad m c 5) $$ Hw5; iintro Hw5
  iapply (wp_colWait m c 6 (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))) $$ [Hf6' HO]
  · isplitl [Hf6']; · iexact Hf6'
    isplitl [HO]; · iexact HO
    iexact Hlev
  iintro ⟨Hw6, Hh6, Hc6, HO⟩
  iapply (wp_loadX c (xOf m c)) $$ Hx; iintro Hx
  iapply (wp_colLoad m c 6) $$ Hw6; iintro Hw6
  iapply (wp_colWait m c 7 (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))) $$ [Hf7' HO]
  · isplitl [Hf7']; · iexact Hf7'
    isplitl [HO]; · iexact HO
    iexact Hlev
  iintro ⟨Hw7, Hh7, Hc7, HO⟩
  iapply (wp_loadX c (xOf m c)) $$ Hx; iintro Hx
  iapply (wp_colLoad m c 7) $$ Hw7; iintro Hw7
  -- the own slot's two rows
  ihave Hown := (Entails.of_eq (slotPts_eq c c fullShare fc)) $$ Hown
  iapply (wp_load_rect 𝒱₀ (c : Thread nD τ) none Set.univ (m := commM) (r := Rect.unit (s := S4x2x512) (k0_off1 c) S1x1x512.size (k0_off1_inb c)) (row1_sub c)) $$ Hown
  iintro Hown
  iapply (wp_store 𝒱₀ (c : Thread nD τ) none Set.univ (m := commM) (r := Rect.unit (s := S4x2x512) (k0_off1 c) S1x1x512.size (k0_off1_inb c)) (row1_sub c)) $$ Hown
  iintro Hown
  iapply (wp_load_rect 𝒱₀ (c : Thread nD τ) none Set.univ (m := commM) (r := Rect.unit (s := S4x2x512) (k0_off2 c) S1x1x512.size (k0_off2_inb c)) (row2_sub c)) $$ Hown
  iintro Hown
  iapply (wp_store 𝒱₀ (c : Thread nD τ) none Set.univ (m := commM) (r := Rect.unit (s := S4x2x512) (k0_off2 c) S1x1x512.size (k0_off2_inb c)) (row2_sub c)) $$ Hown
  iintro Hown
  have hown := own_slot m c fc
  simp only [expRow, pickRow, devWord] at hown
  ihave Hown := (Entails.of_eq hown) $$ Hown
  -- the barrier wait lends this device's slot on the three others
  iapply (wp_bar m K c (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))) (z := _) rfl) $$ [HcB HO HatB]
  · isplitr; · iexact HR
    isplitl [HcB]; · iexact HcB
    isplitl [HO]; · iexact HO
    isplitr; · iexact Hlev
    iexact HatB
  iintro ⟨HO, HzB, Hb0, Hb1, Hb2⟩
  ihave Hb0 := (Entails.of_eq (barPay_eq c 0)) $$ Hb0
  ihave Hb1 := (Entails.of_eq (barPay_eq c 1)) $$ Hb1
  ihave Hb2 := (Entails.of_eq (barPay_eq c 2)) $$ Hb2
  icases Hb0 with ⟨%e2, Hb0⟩
  icases Hb1 with ⟨%e1, Hb1⟩
  icases Hb2 with ⟨%e0, Hb2⟩
  ihave Hown := (slot_shares c c (full m)).1 $$ Hown
  icases Hown with ⟨⟨Hs0, Hs1⟩, Hs2, Hkeep⟩
  iapply (wp_xfer m K c _ 0 (dev4_eq c) (owedRecv c 2 + owedRecv c 1) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))) e0) $$ [HO Hs0 Hb2 HtS0 HtR0]
  · isplitr; · iexact HR
    isplitl [Hs0]; · iexact Hs0
    isplitl [Hb2]; · iexact Hb2
    isplitl [HO]; · iexact HO
    isplitl [HtS0] <;> iassumption
  iintro ⟨HcS0, HO⟩
  iapply (wp_xfer m K c _ 1 (dev5_eq c) (owedRecv c 2) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))) e1) $$ [HO Hs1 Hb1 HtS1 HtR1]
  · isplitr; · iexact HR
    isplitl [Hs1]; · iexact Hs1
    isplitl [Hb1]; · iexact Hb1
    isplitl [HO]; · iexact HO
    isplitl [HtS1] <;> iassumption
  iintro ⟨HcS1, HO⟩
  ihave HO := (Entails.of_eq (congrArg (fun O => (owes (c : Thread nD τ) O (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))) : sProp 𝕄)) (zero_add (owedRecv c 2)).symm)) $$ HO
  iapply (wp_xfer m K c _ 2 (dev6_eq c) (0) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))) e2) $$ [HO Hs2 Hb0 HtS2 HtR2]
  · isplitr; · iexact HR
    isplitl [Hs2]; · iexact Hs2
    isplitl [Hb0]; · iexact Hb0
    isplitl [HO]; · iexact HO
    isplitl [HtS2] <;> iassumption
  iintro ⟨HcS2, HO⟩
  -- the three arrivals
  iapply (wp_xwait m K c (false, 0) (recvS 0) rfl (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))))) $$ [HcR0 HO HatR0]
  · isplitr; · iexact HR
    isplitl [HcR0]; · iexact HcR0
    isplitl [HO] <;> iassumption
  iintro ⟨HO, HpR0, HzR0⟩
  iapply (wp_xwait m K c (false, 1) (recvS 1) rfl (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))))) $$ [HcR1 HO HatR1]
  · isplitr; · iexact HR
    isplitl [HcR1]; · iexact HcR1
    isplitl [HO] <;> iassumption
  iintro ⟨HO, HpR1, HzR1⟩
  iapply (wp_xwait m K c (false, 2) (recvS 2) rfl (insert (csem (some (false, 1)), true) (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))))))) $$ [HcR2 HO HatR2]
  · isplitr; · iexact HR
    isplitl [HcR2]; · iexact HcR2
    isplitl [HO] <;> iassumption
  iintro ⟨HO, HpR2, HzR2⟩
  -- the whole buffer, borrowed from its slots
  unfold payOf recvPay
  ihave HpR0 := (slot_lend c (bwd c 0) (full m)) $$ HpR0
  ihave HpR1 := (slot_lend c (bwd c 1) (full m)) $$ HpR1
  ihave HpR2 := (slot_lend c (bwd c 2) (full m)) $$ HpR2
  icases HpR0 with ⟨Ha0, Hr0⟩
  icases HpR1 with ⟨Ha1, Hr1⟩
  icases HpR2 with ⟨Ha2, Hr2⟩
  ihave Hall := (Entails.of_eq (comm_bwd c keep (full m)).symm) $$ [Hkeep Ha0 Ha1 Ha2]
  · isplitl [Hkeep]; · iexact Hkeep
    isplitl [Ha0]; · iexact Ha0
    isplitl [Ha1] <;> iassumption
  iapply (wp_loadComm c keep (full m)) $$ Hall; iintro Hall
  ihave Hall := (Entails.of_eq (comm_bwd c keep (full m))) $$ Hall
  icases Hall with ⟨Hkeep, Ha0, Ha1, Ha2⟩
  ispecialize Hr0 $$ Ha0
  ispecialize Hr1 $$ Ha1
  ispecialize Hr2 $$ Ha2
  iapply (wp_load 𝒱₀ (c : Thread nD τ) none Set.univ (m := outM) (Finset.subset_univ _)) $$ Hout; iintro Hout
  iapply (wp_storeOut c g2 (k0_pay24 (full m))) $$ Hout; iintro Hout
  -- the three completed sends
  iapply (wp_xwait m K c (true, 0) (sendS 0) rfl (insert (csem (some (false, 2)), true) (insert (csem (some (false, 1)), true) (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))))))) $$ [HcS0 HO HatS0]
  · isplitr; · iexact HR
    isplitl [HcS0]; · iexact HcS0
    isplitl [HO] <;> iassumption
  iintro ⟨HO, HpS0, HzS0⟩
  iapply (wp_xwait m K c (true, 1) (sendS 1) rfl (insert (csem (some (true, 0)), true) (insert (csem (some (false, 2)), true) (insert (csem (some (false, 1)), true) (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))))))))) $$ [HcS1 HO HatS1]
  · isplitr; · iexact HR
    isplitl [HcS1]; · iexact HcS1
    isplitl [HO] <;> iassumption
  iintro ⟨HO, HpS1, HzS1⟩
  iapply (wp_xwait m K c (true, 2) (sendS 2) rfl (insert (csem (some (true, 1)), true) (insert (csem (some (true, 0)), true) (insert (csem (some (false, 2)), true) (insert (csem (some (false, 1)), true) (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W)))))))))))))))) $$ [HcS2 HO HatS2]
  · isplitr; · iexact HR
    isplitl [HcS2]; · iexact HcS2
    isplitl [HO] <;> iassumption
  iintro ⟨HO, HpS2, HzS2⟩
  unfold payOf sendPay
  ihave Hown := (slot_shares c c (full m)).2 $$ [HpS0 HpS1 HpS2 Hkeep]
  · isplitl [HpS0 HpS1]
    · isplitl [HpS0] <;> iassumption
    isplitl [HpS2] <;> iassumption
  rw [wp_ret]; imodintro
  iapply Hk
  unfold bodyPost Φ₁ scratch freeSems hbmAll Dat.owesAt Pipeline.owesWithin
  simp only [overRoles, over8]
  rw [show (dats m ρ 0 c).owed t₀.succ = 0 from rfl]
  isplitr [HO Hx Hlab Hout]
  · isplitl [Hh0 Hh1 Hh2 Hh3 Hh4 Hh5 Hh6 Hh7]
    · iapply (Entails.of_eq ((hbm_split m c).trans (over8 _)).symm)
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6] <;> iassumption
    isplitl [HzB HzR0 HzR1 HzR2 HzS0 HzS1 HzS2]
    · isplitl [HzB]; · iexact HzB
      isplitl [HzR0]; · iexact HzR0
      isplitl [HzR1]; · iexact HzR1
      isplitl [HzR2]; · iexact HzR2
      isplitl [HzS0]; · iexact HzS0
      isplitl [HzS1] <;> iassumption
    isplitl [Hc0 Hc1 Hc2 Hc3 Hc4 Hc5 Hc6 Hc7 Hf0 Hf1]
    · isplitl [Hc0 Hc1 Hc2 Hc3 Hc4 Hc5 Hc6 Hc7]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6] <;> iassumption
      isplitl [Hf0] <;> iassumption
    isplitl [Hw0 Hw1 Hw2 Hw3 Hw4 Hw5 Hw6 Hw7]
    · iexists (wFull m c)
      iapply (Entails.of_eq ((w_split c (wFull m c)).trans (over8 _)).symm)
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6] <;> iassumption
    iexists (full m)
    iapply (Entails.of_eq (comm_bwd c fullShare (full m)).symm)
    isplitl [Hown]; · iexact Hown
    isplitl [Hr0]; · iexact Hr0
    isplitl [Hr1] <;> iassumption
  isplitl [HO]
  · iexists (insert (csem (some (true, 2)), true) (insert (csem (some (true, 1)), true) (insert (csem (some (true, 0)), true) (insert (csem (some (false, 2)), true) (insert (csem (some (false, 1)), true) (insert (csem (some (false, 0)), true) (insert (SemLoc.reg barS, true) (insert (SemLoc.dma (colS 7), false) (insert (SemLoc.dma (colS 6), false) (insert (SemLoc.dma (colS 5), false) (insert (SemLoc.dma (colS 4), false) (insert (SemLoc.dma (colS 3), false) (insert (SemLoc.dma (colS 2), false) (insert (SemLoc.dma (colS 1), false) (insert (SemLoc.dma (colS 0), false) (W))))))))))))))))
    isplitr; · ipureintro; exact fun _ _ => Or.inl trivial
    iexact HO
  isplitl [Hx]
  · iexists _; isplitr; · (ipureintro; rfl)
    iexact Hx
  isplitl [Hlab]
  · iexists _; isplitr; · (ipureintro; rfl)
    iexact Hlab
  iexists _; isplitr; · (ipureintro; rfl)
  iexact Hout

/-- Owning a whole buffer through the memref of all of it. -/
theorem owns_all (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- The first state with the stagings, the invariants' names not yet opened. -/
def entry (c : Dev nD) : sProp 𝕄 :=
  iprop(Φ₀ m c ∗ (dats m ρ 0 c).owesAt false t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- What the pipeline asks of the body, at its one grid point. -/
theorem body_obligation (c : Dev nD) : BodyObligation (dats (F := F) m ρ 0 c) (defs₀ (F := F)) 𝒱₀ false Set.univ := fun t => by
  rw [fin_N t, bigSep_W0, bigSep_W0]
  simp only [owns_all]
  show entry m ρ c ⊢ wp frame (wpE (defs₀ (F := F)) 𝒱₀ c none) Set.univ
    (cc0_body (Memref.whole cc0_stg0_0) (Memref.isWhole_whole _) (Memref.whole main_arg1) (Memref.isWhole_whole _)
      (Memref.whole cc0_stg1_0) (Memref.isWhole_whole _) (Memref.whole cc0_stg2_0) (Memref.isWhole_whole _)
      (Memref.whole cc0_scratch0) (Memref.isWhole_whole _) cc0_scratch1 (Memref.whole cc0_scratch2) (Memref.isWhole_whole _) cc0_scratch3 cc0_scratch4)
    (fun _ => bodyPost m ρ c)
  unfold entry Φ₀ start
  iintro ⟨⟨⟨⟨%K, Hg⟩, Hc, Hlev, Hh⟩, Hscr⟩, Hrest⟩
  iapply (sound_body m ρ K c fun _ => bodyPost m ρ c)
  unfold bodyPre
  isplitr []
  · isplitl [Hg Hc Hlev Hh Hscr]
    · isplitl [Hg]; · iexact Hg
      isplitl [Hc]; · iexact Hc
      isplitl [Hlev]; · iexact Hlev
      isplitl [Hh] <;> iassumption
    iexact Hrest
  · iintro H; iexact H

end Body

end Cert.LossProof

end
-- ==== Proof.Launch.lean ====
/-
# The whole run

From any memory with zero counters, the four devices' runs together: the ghost state of the protocol is made at
launch, dealt to the devices, and every final state has the loss in the result array, the arguments as they
were and every counter at zero.
-/
module

public import proofs.«01_k».proof.Proof.Body
public import Idealize.ShloMosaic.Lib.Pipeline.CollectiveSegs

@[expose] public section

noncomputable section

namespace Cert.LossProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## The kernel's own semaphores -/

/-- The sixteen semaphores of the kernel's scratch: the column copies', the two left alone, the sends', the receives'. -/
abbrev Own : Type := Fin 8 ⊕ (Fin 2 ⊕ (Bool × Fin 3))
abbrev osem : Own → SemLoc sig
  | .inl k => .dma (colS k)
  | .inr (.inl k) => .dma (spareS k)
  | .inr (.inr (true, k)) => .dma (sendS k)
  | .inr (.inr (false, k)) => .dma (recvS k)
abbrev owns16 : List Own :=
  [.inl 0, .inl 1, .inl 2, .inl 3, .inl 4, .inl 5, .inl 6, .inl 7, .inr (.inl 0), .inr (.inl 1),
    .inr (.inr (true, 0)), .inr (.inr (true, 1)), .inr (.inr (true, 2)), .inr (.inr (false, 0)), .inr (.inr (false, 1)), .inr (.inr (false, 2))]

theorem ownSemFacts : Pipeline.OwnSemFacts cfg0.spec osem := by decide

theorem share_full (c : Dev nD) (w : Fin cfg0.W) : (dats m ρ 0 c).share w = fullShare := by unfold Dat.share; split <;> rfl

/-- The kernel's own semaphores and the barrier's are the protocol's cells and the free ones. -/
theorem sems_eq (c : Dev nD) :
    (iprop(Pipeline.ownSems0 (Ix := Bool) (Name := ℕ) (U := UU) (Lvl := ℕ) (Val := Elt F) (τ := τ) osem c ∗ unscopedSems0 c) : sProp 𝕄)
      ⊣⊢ iprop((bigSep Finset.univ fun r : Role => semVal (kcell (c, r)) 0) ∗ freeSems c) := by
  have hu : (unscopedSems0 c : sProp 𝕄) = semVal (barCell c) 0 := by
    unfold unscopedSems0; rw [bigSep_eq_bigSepL_of_eq [SemLoc.reg barS] (by decide) (by decide)]; rfl
  have ho : (Pipeline.ownSems0 (Ix := Bool) (Name := ℕ) (U := UU) (Lvl := ℕ) (Val := Elt F) (τ := τ) osem c : sProp 𝕄)
      = (let v := fun sm : DmaSem sig => (semVal ((c : Thread nD τ), SemLoc.dma sm) 0 : sProp 𝕄)
        iprop(v (colS 0) ∗ v (colS 1) ∗ v (colS 2) ∗ v (colS 3) ∗ v (colS 4) ∗ v (colS 5) ∗ v (colS 6) ∗ v (colS 7) ∗ v (spareS 0) ∗ v (spareS 1)
          ∗ v (sendS 0) ∗ v (sendS 1) ∗ v (sendS 2) ∗ v (recvS 0) ∗ v (recvS 1) ∗ v (recvS 2))) := by
    rw [Pipeline.ownSems0_eq_of_list c osem owns16 (by decide) (by decide)]; rfl
  rw [ho, hu, overRoles]
  unfold freeSems; rw [over8]
  dsimp only
  constructor
  · iintro ⟨⟨H0, H1, H2, H3, H4, H5, H6, H7, Hf0, Hf1, HS0, HS1, HS2, HR0, HR1, HR2⟩, HB⟩
    isplitr [H0 H1 H2 H3 H4 H5 H6 H7 Hf0 Hf1]
    · isplitl [HB]; · iexact HB
      isplitl [HR0]; · iexact HR0
      isplitl [HR1]; · iexact HR1
      isplitl [HR2]; · iexact HR2
      isplitl [HS0]; · iexact HS0
      isplitl [HS1] <;> iassumption
    isplitr [Hf0 Hf1]
    · isplitl [H0]; · iexact H0
      isplitl [H1]; · iexact H1
      isplitl [H2]; · iexact H2
      isplitl [H3]; · iexact H3
      isplitl [H4]; · iexact H4
      isplitl [H5]; · iexact H5
      isplitl [H6] <;> iassumption
    isplitl [Hf0] <;> iassumption
  · iintro ⟨⟨HB, HR0, HR1, HR2, HS0, HS1, HS2⟩, ⟨H0, H1, H2, H3, H4, H5, H6, H7⟩, Hf0, Hf1⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hf0]; · iexact Hf0
      isplitl [Hf1]; · iexact Hf1
      isplitl [HS0]; · iexact HS0
      isplitl [HS1]; · iexact HS1
      isplitl [HS2]; · iexact HS2
      isplitl [HR0]; · iexact HR0
      isplitl [HR1] <;> iassumption
    iexact HB

/-! ## The ghost state, minted and dealt -/

/-- Every protocol cell of the mesh. -/
def allCells : Finset (GSem nD τ sig) := Finset.univ.map ⟨kcell, kcell_injective⟩

/-- A device's tokens as minted: its barrier's three, one for each of its receive and send cells. -/
abbrev tokAt (x : Dev nD × (Option Bool × Fin 3)) : GSem nD τ sig × ℕ × Fin 3 := match x.2.1 with
  | none => (barCell x.1, 0, x.2.2)
  | some b => (kcell (x.1, some (b, x.2.2)), 0, 0)
theorem tokAt_injective : Function.Injective tokAt := by
  rintro ⟨c, o, k⟩ ⟨c', o', k'⟩ h
  have h1 : kcell (c, o.map (·, k)) = kcell (c', o'.map (·, k')) := by
    have := congrArg Prod.fst h
    rcases o with _ | b <;> rcases o' with _ | b' <;> exact this
  have h2 := kcell_injective h1
  obtain ⟨rfl, h3⟩ := Prod.mk.inj h2
  rcases o with _ | b <;> rcases o' with _ | b'
  · have h4 : k = k' := congrArg (fun x : GSem nD τ sig × ℕ × Fin 3 => x.2.2) h
    rw [h4]
  · exact absurd h3 (by simp)
  · exact absurd h3 (by simp)
  · obtain ⟨rfl, rfl⟩ := Prod.mk.inj (Option.some.inj h3)
    rfl
def allToks : Finset (GSem nD τ sig × ℕ × Fin 3) := Finset.univ.map ⟨tokAt, tokAt_injective⟩

def u₀ : UU :=
  (initOf (Pipeline.cells cfgs cellOf_inj) (Pipeline.launchToks cfgs cellOf_inj), (initOf allCells allToks, 1))

/-- The tokens of a device's own cells. -/
def minted (c : Dev nD) : sProp 𝕄 :=
  iprop((bigSep Finset.univ fun k : Fin 3 => dutyTok ER (barCell c) 0 k)
    ∗ (bigSep Finset.univ fun k : Fin 3 => dutyTok ER (recvCell c k) 0 0)
    ∗ bigSep Finset.univ fun k : Fin 3 => dutyTok ER (sendCell c k) 0 0)

/-- What the launch deals a device. -/
def dealt (c : Dev nD) : sProp 𝕄 :=
  iprop((bigSep Finset.univ fun r : Role => roundState ER (Rd m) (kcell (c, r)) 0)
    ∗ (bigSep Finset.univ fun r : Role => atPos ER (kcell (c, r)) 0 ∅ 0)
    ∗ (bigSep Finset.univ fun r : Role => reached ER (kcell (c, r)) 0) ∗ minted c)
/-- What it has once the invariants stand. -/
def armed (c : Dev nD) : sProp 𝕄 := iprop(∃ K, records m K ∗ linear c)

theorem mint : BI.own (ER (initOf allCells allToks)) ⊢ (|==> bigSep Finset.univ (dealt m) : sProp 𝕄) := by
  have hc (Φ : GSem nD τ sig → sProp 𝕄) : bigSep allCells Φ = bigSep Finset.univ fun c : Dev nD => bigSep Finset.univ fun r : Role => Φ (kcell (c, r)) := by
    unfold allCells; rw [bigSep_map, bigSep_univ_prod]; rfl
  have ht : bigSep allToks (fun x => (dutyTok ER x.1 x.2.1 x.2.2 : sProp 𝕄)) = bigSep Finset.univ fun c : Dev nD => minted c := by
    unfold allToks; rw [bigSep_map, bigSep_univ_prod]
    refine bigSep_congr fun c _ => ?_
    rw [bigSep_univ_prod, bigSep_univ_eq_bigSepL [none, some false, some true] (by decide) (by decide)]
    rfl
  iintro H
  imod (Rounds.fund ER (Rd m) allCells allToks) $$ H with ⟨Hst, Hr, Hat, Htok⟩
  imodintro
  ihave Hst := (Entails.of_eq (hc fun g => roundState ER (Rd m) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold dealt; simp only [bigSep_sep']
  isplitl [Hst]; · iexact Hst
  isplitl [Hat]; · iexact Hat
  isplitl [Hr] <;> iassumption

/-- A family over devices and distances, each device's member taken from the device that far ahead. -/
theorem turn (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (fwd c k) k := by
  simp only [over3, bigSep_sep']
  rw [bigSep_univ_equiv (rot 0) (fun c => Φ c 0), bigSep_univ_equiv (rot 1) (fun c => Φ c 1), bigSep_univ_equiv (rot 2) (fun c => Φ c 2)]
  rfl

theorem minted_pay : (bigSep Finset.univ fun c : Dev nD => (minted c : sProp 𝕄)) = bigSep Finset.univ fun c : Dev nD => payToks c := by
  unfold minted payToks
  rw [bigSep_sep', bigSep_sep', bigSep_sep', bigSep_sep', turn fun c k => dutyTok ER (barCell c) 0 k, turn fun c k => dutyTok ER (recvCell c k) 0 0]

/-- A device's cells get their invariants. -/
theorem device_alloc (c : Dev nD) :
    iprop(Pipeline.ownSems0 (Ix := Bool) (Name := ℕ) (U := UU) (Lvl := ℕ) (Val := Elt F) (τ := τ) osem c ∗ unscopedSems0 c ∗ dealt m c)
      ⊢ |={Set.univ}=> iprop((bigSep Finset.univ fun r : Role => iprop(∃ κ : ℕ, cellInv ER (Rd m) κ (kcell (c, r))))
          ∗ (bigSep Finset.univ fun r : Role => reached ER (kcell (c, r)) 0)
          ∗ (bigSep Finset.univ fun r : Role => atPos ER (kcell (c, r)) 0 ∅ 0) ∗ minted c ∗ freeSems c) := by
  unfold dealt
  iintro ⟨Hos, Hus, Hst, Hat, Hr, Htok⟩
  ihave Hv := (sems_eq (F := F) c).1 $$ [Hos Hus]
  · isplitl [Hos] <;> iassumption
  icases Hv with ⟨Hv, Hfree⟩
  have halloc : iprop((bigSep Finset.univ fun r : Role => semVal (kcell (c, r)) 0) ∗ bigSep Finset.univ fun r : Role => roundState ER (Rd m) (kcell (c, r)) 0)
      ⊢ (|={Set.univ}=> bigSep Finset.univ fun r : Role => iprop(∃ κ : ℕ, cellInv ER (Rd m) κ (kcell (c, r))) : sProp 𝕄) := by
    rw [← bigSep_sep']
    exact (bigSep_mono fun r _ => (Rounds.body_intro ER (Rd m) (kcell (c, r))).trans inv_alloc).trans (bigSep_fupd _ _)
  imod halloc $$ [Hv Hst] with Hinv
  · isplitl [Hv] <;> iassumption
  imodintro
  isplitl [Hinv]; · iexact Hinv
  isplitl [Hr]; · iexact Hr
  isplitl [Hat]; · iexact Hat
  isplitl [Htok] <;> iassumption

theorem armed_all :
    (bigSep Finset.univ fun c : Dev nD => iprop((bigSep Finset.univ fun r : Role => iprop(∃ κ : ℕ, cellInv ER (Rd m) κ (kcell (c, r))))
          ∗ (bigSep Finset.univ fun r : Role => reached ER (kcell (c, r)) 0)
          ∗ (bigSep Finset.univ fun r : Role => atPos ER (kcell (c, r)) 0 ∅ 0) ∗ minted c ∗ freeSems c) : sProp 𝕄)
      ⊢ bigSep Finset.univ (armed m) := by
  rw [bigSep_sep', bigSep_sep', bigSep_sep', bigSep_sep', minted_pay,
    ← bigSep_univ_prod (fun cr : Dev nD × Role => iprop(∃ κ : ℕ, cellInv ER (Rd m) κ (kcell cr))),
    ← bigSep_univ_prod (fun cr : Dev nD × Role => (reached ER (kcell cr) 0 : sProp 𝕄))]
  iintro ⟨HI, #HR, Hrest⟩
  ihave HK := (BI.bigSep_exists_pi Finset.univ (fun (cr : Dev nD × Role) (κ : ℕ) => (cellInv ER (Rd m) κ (kcell cr) : sProp 𝕄))) $$ HI
  icases HK with ⟨%K, #HI⟩
  have hjoin : iprop(records m K ∗ bigSep Finset.univ fun c : Dev nD => (linear c : sProp 𝕄)) ⊢ bigSep Finset.univ (armed m) :=
    (sep_mono_left (BI.bigSep_of_persistent Finset.univ (records m K))).trans (by
      rw [← bigSep_sep']
      exact bigSep_mono fun c _ => show iprop(records m K ∗ linear c) ⊢ armed m c by
        unfold armed; iintro H; iexists K; iexact H)
  iapply hjoin
  isplitr
  · unfold records; isplitl; · iexact HI
    iexact HR
  · unfold linear; rw [bigSep_sep', bigSep_sep']; iexact Hrest

/-- The launch's one step over the whole mesh. -/
theorem arm_all : (bigSep Finset.univ fun c => iprop(Pipeline.ownSems0 (Ix := Bool) (Name := ℕ) (U := UU) (Lvl := ℕ) (Val := Elt F) (τ := τ) osem c ∗ unscopedSems0 c ∗ dealt m c) : sProp 𝕄)
    ⊢ |={Set.univ}=> bigSep Finset.univ (armed m) :=
  ((bigSep_mono fun c _ => device_alloc m c).trans (bigSep_fupd _ _)).trans (BI.fupd_mono (armed_all m))

/-! ## The credit at launch -/

/-- What device `d` owes a barrier cell. -/
theorem owed_bar (d c : Dev nD) :
    O₀ d (barCell c) true = (if c = fwd d 2 then 1 else 0) + (if c = fwd d 1 then 1 else 0) + (if c = fwd d 0 then 1 else 0) := by
  unfold O₀ O₁ owedRecv owedBar
  simp only [Pi.add_apply, Finsupp.add_apply, tallyAt_apply, kcell_injective.eq_iff, Prod.mk.injEq, reduceCtorEq, and_false, false_and, if_false, and_true, Nat.zero_add]
/-- What it owes a receive cell: the transfer at that distance. -/
theorem owed_recv (d c : Dev nD) (k : Fin 3) : O₀ d (recvCell c k) true = if d = bwd c k then N else 0 := by
  have hd : ∀ k' : Fin 3, (c = fwd d k' ∧ k = k') ↔ (k = k' ∧ d = bwd c k) := fun k' =>
    ⟨fun ⟨h1, h2⟩ => ⟨h2, by rw [h2, h1, bwd_fwd]⟩, fun ⟨h1, h2⟩ => ⟨by rw [← h1, h2, fwd_bwd], h1⟩⟩
  unfold O₀ O₁ owedRecv owedBar
  simp only [Pi.add_apply, Finsupp.add_apply, tallyAt_apply, kcell_injective.eq_iff, Prod.mk.injEq, reduceCtorEq, and_false, false_and, if_false, and_true, Nat.add_zero,
    Option.some.injEq, true_and, hd]
  by_cases h : d = bwd c k
  · simp only [h, and_true, if_true]
    fin_cases k <;> simp
  · simp only [h, and_false, if_false]
theorem owed_low (d : Dev nD) (g : GSem nD τ sig) : O₀ d g false = 0 :=
  Nat.eq_zero_of_not_pos fun h => by obtain ⟨_, _, hu⟩ := O₀_pos h; exact Bool.noConfusion hu

theorem bar_units (c : Dev nD) :
    (∑ d : Dev nD, ((if c = fwd d 2 then 1 else 0) + (if c = fwd d 1 then 1 else 0) + (if c = fwd d 0 then 1 else 0)) : ℕ) = 3 := by
  revert c; decide

theorem credit_bar (c : Dev nD) :
    tallyOn (barCell c) (launchCredit (Pipeline.owing O₀) 0 (barCell c)) = (tallyAt (barCell c) true 3 : CellTallies nD τ sig Bool) := by
  unfold tallyAt; refine congrArg _ (Finsupp.ext fun u => ?_)
  rw [Pipeline.launchCredit_owing]
  cases u
  · rw [Finset.sum_congr rfl fun d _ => owed_low d _, Finset.sum_const_zero, Finsupp.single_eq_of_ne (by decide)]
  · rw [Finset.sum_congr rfl fun d _ => owed_bar d c, bar_units, Finsupp.single_eq_same]
theorem credit_recv (c : Dev nD) (k : Fin 3) :
    tallyOn (recvCell c k) (launchCredit (Pipeline.owing O₀) 0 (recvCell c k)) = (tallyAt (recvCell c k) true N : CellTallies nD τ sig Bool) := by
  unfold tallyAt; refine congrArg _ (Finsupp.ext fun u => ?_)
  rw [Pipeline.launchCredit_owing]
  cases u
  · rw [Finset.sum_congr rfl fun d _ => owed_low d _, Finset.sum_const_zero, Finsupp.single_eq_of_ne (by decide)]
  · rw [Finset.sum_congr rfl fun d _ => owed_recv d c k, Finset.sum_ite_eq' Finset.univ (bwd c k) fun _ => N, if_pos (Finset.mem_univ _), Finsupp.single_eq_same]

theorem creds_of (c : Dev nD) : (Pipeline.launchCred O₀ c : sProp 𝕄) ⊢ creds c := by
  have h (Φ : SemLoc sig → sProp 𝕄) : bigSep Finset.univ Φ ⊢ iprop(Φ (csem none) ∗ Φ (csem (some (false, 0))) ∗ Φ (csem (some (false, 1))) ∗ Φ (csem (some (false, 2)))
      ∗ Φ (csem (some (true, 0))) ∗ Φ (csem (some (true, 1))) ∗ Φ (csem (some (true, 2)))) := by
    have h' := bigSep_subset (Φ := Φ) (Finset.subset_univ (Finset.univ.map ⟨csem, csem_injective⟩))
    rw [bigSep_map, overRoles] at h'
    exact h'
  unfold Pipeline.launchCred creds
  rw [over3, ← credit_bar, ← credit_recv, ← credit_recv, ← credit_recv]
  iintro H
  ihave H := (h _) $$ H
  icases H with ⟨HB, H0, H1, H2, -⟩
  isplitl [HB]; · iexact HB
  isplitl [H0]; · iexact H0
  isplitl [H1] <;> iassumption

/-! ## Entering and leaving the region -/

theorem begin_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ armed m c)
      ⊢ |={Set.univ}=> iprop(start m c ∗ emp) := by
  rw [Pipeline.unscopedRestP_none, unscopedRest0_eq]
  iintro ⟨Hh, Hlev, Hcr, -, HG⟩
  ihave Hc := (creds_of (F := F) c) $$ Hcr
  imodintro
  unfold start armed hbmAll
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device still has when the region is left. -/
def left (c : Dev nD) : sProp 𝕄 := iprop(unscopedSems0 c ∗ hbmAll m c)

theorem leave (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left scratch
  iintro ⟨Hh, Hv, Hfree, Hr⟩
  ihave Hs := (sems_eq (F := F) c).2 $$ [Hv Hfree]
  · isplitl [Hv] <;> iassumption
  icases Hs with ⟨Ho, Hu⟩
  isplitl [Hu Hh]
  · isplitl [Hu] <;> iassumption
  isplitl [Ho] <;> iassumption

theorem waits (c : Dev nD) : (levAts L lv : sProp 𝕄) ⊢ Pipeline.cellsWaits cfgs (dats m ρ) false 0 c :=
  Pipeline.cellsWaits_intro cfgs (dats m ρ) false 0 c fun w s t => by
    rcases t with ⟨_ | _, ht⟩
    · exact mayWait_low c _ (above_O₀ c)
    · exact mayWait_low c _ (fun g u h => absurd h (Nat.lt_irrefl 0))

/-! ## The run -/

/-- What a device's memory is known to hold besides the windows' arrays. -/
def endMem (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem left_read (c : Dev nD) (s' : Phys nD τ sig (Elt F)) :
    iprop(left m c ∗ emp ∗ SI s') ⊢ |={Set.univ}=> iprop(⌜endMem m c s'.mem⌝ ∗ SI s') := by
  unfold left hbmAll
  iintro ⟨⟨Hu, Hh⟩, -, HSI⟩
  icombine HSI Hh gives %h
  imod (Pipeline.unscopedSems0_read (X := unscopedSems0 c) (c := c) fupd_intro s') $$ [Hu HSI] with ⟨%hs, HSI⟩
  · isplitl [Hu] <;> iassumption
  imodintro
  isplitr
  · ipureintro; exact ⟨funext fun i => h i (Finset.mem_univ i), hs⟩
  iexact HSI

/-- What every final state has: each window's array as computed, the weights as they were. -/
def Ended : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m) (G' := armed m) (u₀ := u₀)
    (hu₀ := by
      unfold u₀
      iintro Hu
      ihave H := (ownU_pair _ _) $$ Hu
      icases H with ⟨HP, HX⟩
      ihave HX := (own_pair_emb (embR (A := UR sig nD τ) (B := UB × Counters)) _ _) $$ HX
      icases HX with ⟨HX, -⟩
      imod (show BI.own (((Emb.inl : Emb UB (UB × Counters)).trans (embR (A := UR sig nD τ) (B := UB × Counters))) (initOf allCells allToks)) ⊢ (|==> bigSep Finset.univ (dealt m) : sProp 𝕄) from mint m) $$ HX with HG
      imodintro
      isplitl [HP] <;> iassumption)
    (hglob := arm_all m)
    (hA := fun _ _ => rfl) (hpf := fun _ k => k.elim0)
    (X := start m) (Y := left m) (Z := fun _ => iprop(emp))
    (hX := begin_of m ρ) (hin := enter m ρ) (hout := leave m ρ)
    (QY := endMem m)
    (hY := left_read m)
    (hQ := fun _ h hs => ⟨fun c => ⟨fun w => (h c).1 w, (h c).2.2.1⟩, sem_eq_zero hs fun c => (h c).2.2.2⟩)

end Cert.LossProof

end
-- ==== Proof.Frames.lean ====
/-
# The run read at the result and the arguments, and the three frames
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.LossProof

open Cert.KernelIdeal Cert.KernelIdeal.Gen

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The argument windows' arrays are never written. -/
theorem end_x (c : Dev nD) : (dats m ρ 0 c).arrAt (0 : Fin 3) cfg0.N = m ((c : Thread nD τ).loc main_arg0) :=
  (dats m ρ 0 c).arrAt_in (0 : Fin 3) rfl _
theorem end_lab (c : Dev nD) : (dats m ρ 0 c).arrAt (1 : Fin 3) cfg0.N = m ((c : Thread nD τ).loc main_arg2) :=
  (dats m ρ 0 c).arrAt_in (1 : Fin 3) rfl _

/-- The result's one block is all of it. -/
theorem end_loss (c : Dev nD) : (dats m ρ 0 c).arrAt (2 : Fin 3) cfg0.N = lossOf m := by
  have hz : (fun a => (win0_2.index (0 : Fin 1)) a * main_v1.ty.shape.size a) = fun _ => 0 :=
    funext fun a => by fin_cases a <;> decide
  have hall := fun f => Memref.read_access_unit_zero (Elt F) main_v1 hz (fun a => by fin_cases a <;> decide) f
  have hread : (win0_2.blk (0 : Fin 1)).view.read (Elt F) ((dats m ρ 0 c).arrAt (2 : Fin 3) cfg0.N) = lossOf m := by
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  rw [hall] at hread
  exact hread

/-- The two argument blocks a device reads are the whole arrays. -/
theorem xOf_eq (c : Dev nD) : xOf m c = m ((c : Thread nD τ).loc main_arg0) :=
  Memref.read_access_unit_zero (Elt F) main_arg0 (funext fun a => by fin_cases a <;> decide) (fun a => by fin_cases a <;> decide) _
theorem labOf_eq (c : Dev nD) : labOf m c = m ((c : Thread nD τ).loc main_arg2) :=
  Memref.read_access_unit_zero (Elt F) main_arg2 (funext fun a => by fin_cases a <;> decide) (fun a => by fin_cases a <;> decide) _

/-- Every execution ends with the loss in each device's result array, the arguments unchanged, every counter zero. -/
theorem run_end : θ_run defs (onTc (τ := τ) (main (F := F))) ⟨m, fun _ => 0, ρ⟩ (fun r =>
    (∀ c : Dev nD, r.2.mem ((c : Thread nD τ).loc main_v1) = lossOf m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨((h.1 c).1 (2 : Fin 3)).trans (end_loss m ρ c), ((h.1 c).1 (0 : Fin 3)).trans (end_x m ρ c),
    (h.1 c).2, ((h.1 c).1 (1 : Fin 3)).trans (end_lab m ρ c)⟩, h.2⟩) (run_main m ρ)

/-- What a frame says, for any floats. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2, h.2⟩) (run_end m ρ)

theorem frame_idealized : Cert.quiescent_KernelIdeal := fun m ρ _ => run_frame (F := Ideal) m ρ

/-- The program as compiled has the same text: its one body is the same, and so are its calls. -/
theorem body_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
theorem defs_same : Cert.Kernel.defs (F := F) = Cert.KernelIdeal.defs (F := F) :=
  congrArg (Pipeline.defs (Cert.KernelIdeal.pcfgs (F := F))) body_same

theorem frame_compiled : Cert.quiescent_Kernel := fun m ρ _ => by
  rw [defs_same]
  exact run_frame (F := Bits) m ρ

/-- The reference declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.LossProof

end
-- ==== Proof.ValueMath.lean ====
/-
# The arithmetic of the loss

Real numbers among the extended reals: finite sums, the largest of finitely many, the sum of exponentials with and
without the largest taken out; and the 32768 columns cut as four devices, eight pieces, 1024 columns.
-/
module

public import Idealize.ShloMosaic.PureOps.Ideal.Laws
public import Idealize.ShloMosaic.Lib.ValueIdx

@[expose] public section

noncomputable section

namespace Cert.LossProof

open Idealize.ShloMosaic

/-- A sum of reals is the same sum among the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, taken from `-∞`, is one of them. -/
theorem largest_real {n : ℕ} (hn : 0 < n) (f : Fin n → ℝ) :
    ∃ r : ℝ, (Finset.univ : Finset (Fin n)).fold max (⊥ : EReal) (fun i => (f i : EReal)) = (r : EReal) := by
  obtain ⟨i, -, hi⟩ := Finset.exists_mem_eq_sup (Finset.univ : Finset (Fin n)) ⟨⟨0, hn⟩, Finset.mem_univ _⟩ (fun i => (f i : EReal))
  exact ⟨f i, hi⟩

/-- Taking a constant out of the exponents takes it out of the logarithm. -/
theorem log_sum_exp {n : ℕ} (hn : 0 < n) (f : Fin n → ℝ) (r : ℝ) :
    r + Real.log (∑ v, Real.exp (f v - r)) = Real.log (∑ v, Real.exp (f v)) := by
  have hpos : 0 < ∑ v, Real.exp (f v) := Finset.sum_pos (fun v _ => Real.exp_pos _) ⟨⟨0, hn⟩, Finset.mem_univ _⟩
  have h : ∑ v, Real.exp (f v - r) = Real.exp (-r) * ∑ v, Real.exp (f v) := by
    rw [Finset.mul_sum]
    exact Finset.sum_congr rfl fun v _ => by rw [← Real.exp_add]; congr 1; ring
  rw [h, Real.log_mul (Real.exp_pos _).ne' hpos.ne', Real.log_exp]
  ring

/-- The logarithm of a sum of exponentials, at the ideal values. -/
theorem log_of_sum {n : ℕ} (hn : 0 < n) (f : Fin n → ℝ) :
    Ideal.log ((∑ v, Real.exp (f v) : ℝ) : EReal) = ((Real.log (∑ v, Real.exp (f v)) : ℝ) : EReal) := by
  have hpos : 0 < ∑ v, Real.exp (f v) := Finset.sum_pos (fun v _ => Real.exp_pos _) ⟨⟨0, hn⟩, Finset.mem_univ _⟩
  rw [Ideal.log_coe, if_neg (not_le.mpr hpos)]

/-- Column `u` of piece `k` of device `j`. -/
def col (j : Fin 4) (k : Fin 8) (u : Fin 1024) : Fin 32768 :=
  ⟨8192 * j.val + 1024 * k.val + u.val, by have := j.isLt; have := k.isLt; have := u.isLt; omega⟩

/-- Every column is one piece's one column of one device. -/
def colEquiv : (Fin 4 × Fin 8) × Fin 1024 ≃ Fin 32768 where
  toFun p := col p.1.1 p.1.2 p.2
  invFun v := ((⟨v.val / 8192, by have := v.isLt; omega⟩, ⟨v.val / 1024 % 8, by omega⟩), ⟨v.val % 1024, by omega⟩)
  left_inv p := by
    obtain ⟨⟨j, k⟩, u⟩ := p
    have := j.isLt; have := k.isLt; have := u.isLt
    refine Prod.ext (Prod.ext (Fin.ext ?_) (Fin.ext ?_)) (Fin.ext ?_) <;> simp only [col] <;> omega
  right_inv v := by
    have := v.isLt
    refine Fin.ext ?_
    simp only [col]
    omega

/-- So a sum over the devices, pieces and columns is a sum over all columns. -/
theorem sum_col (f : Fin 32768 → ℝ) : ∑ j : Fin 4, ∑ k : Fin 8, ∑ u : Fin 1024, f (col j k u) = ∑ v, f v := by
  rw [← Equiv.sum_comp colEquiv f, Fintype.sum_prod_type, Fintype.sum_prod_type]
  rfl

end Cert.LossProof

end
-- ==== Proof.ValueKernel.lean ====
/-
# What the kernel's statistics are, at the ideal values

The logits of a piece, the two rows of statistics as sums over the pieces' columns, and the loss from the two rows.
-/
module

public import proofs.«01_k».proof.Proof.Protocol
public import proofs.«01_k».proof.Proof.ValueMath
public import Idealize.ShloMosaic.Lib.MatmulPlain

@[expose] public section

noncomputable section

namespace Cert.LossProof

open Cert.KernelIdeal Cert.KernelIdeal.Gen
open Idealize.ShloMosaic Idealize.ShloMosaic.ValueIdx

/-- The logits of a piece: a row of `x` times a column of the piece. -/
theorem logit_apply (x : Vec Ideal S512x1024 .f32) (w : Vec Ideal S1024x1024 .f32) (t : Fin 512) (u : Fin 1024) :
    k0_pay4 (F := Ideal) x w (ix2 t u) = ∑ d : Fin 1024, x (ix2 t d) * w (ix2 d u) := by
  have hx : shapeCast S512x1024 x shapeCasts_S512x1024_S512x1024 = x := funext fun i => shapeCast_apply x _ i i rfl
  unfold k0_pay4
  rw [hx]
  refine (Ideal.matmul_plain_apply (M := 512) (K := 1024) (N := 1024) none x w _ t u).trans ?_
  show Ideal.ofBits .f32 0x00000000#32 + _ = _
  rw [Ideal.ofBits_zero_f32, zero_add]

/-- The exponentials of a piece's logits, summed along its columns. -/
def expSum (x : Vec Ideal S512x1024 .f32) (w : Vec Ideal S1024x1024 .f32) : FVec Ideal S512 .f32 :=
  multiReduction .add [1] S512 (exp (k0_pay4 x w)) 0x00000000#32 reduces_S512x1024_S512 (.inl rfl) rfl

/-- The logits of a piece at the columns whose number is the label's, counted from the piece's first column `off`. -/
def pickSum (off : BitVec 32) (l : Vec Ideal S512 .i32) (x : Vec Ideal S512x1024 .f32) (w : Vec Ideal S1024x1024 .f32) : FVec Ideal S512 .f32 :=
  multiReduction .add [1] S512
    (select (cmpi .eq (iota .tc S512x1024 32 [1] iota_S512x1024_d1_w32)
        (broadcastTo S512x1024 (subi (k0_pay1 l) (broadcast S512x1 off)) broadcasts_S512x1_S512x1024))
      (k0_pay4 x w) (broadcast S512x1024 (Scalar.ofBits .f32 0x00000000#32)))
    0x00000000#32 reduces_S512x1024_S512 (.inl rfl) rfl

/-- The first row of statistics is the eight pieces' sums, added in order. -/
theorem expRow_eq (x : Vec Ideal S512x1024 .f32) (w : Fin 8 → Vec Ideal S1024x1024 .f32) :
    expRow x w = shapeCast S1x1x512 (addf (addf (addf (addf (addf (addf (addf (expSum x (w 0)) (expSum x (w 1))) (expSum x (w 2)))
      (expSum x (w 3))) (expSum x (w 4))) (expSum x (w 5))) (expSum x (w 6))) (expSum x (w 7))) shapeCasts_S512_S1x1x512 := rfl

/-- The first column of piece `k` of the device whose number is `v`. -/
def firstCol (v : BitVec 32) (k : BitVec 32) : BitVec 32 := Scalar.addi (Scalar.muli v 8192#32) k

/-- The second row likewise. -/
theorem pickRow_eq (v : BitVec 32) (l : Vec Ideal S512 .i32) (x : Vec Ideal S512x1024 .f32) (w : Fin 8 → Vec Ideal S1024x1024 .f32) :
    pickRow v l x w = shapeCast S1x1x512 (addf (addf (addf (addf (addf (addf (addf
      (pickSum (firstCol v 0#32) l x (w 0)) (pickSum (firstCol v 1024#32) l x (w 1))) (pickSum (firstCol v 2048#32) l x (w 2)))
      (pickSum (firstCol v 3072#32) l x (w 3))) (pickSum (firstCol v 4096#32) l x (w 4))) (pickSum (firstCol v 5120#32) l x (w 5)))
      (pickSum (firstCol v 6144#32) l x (w 6))) (pickSum (firstCol v 7168#32) l x (w 7))) shapeCasts_S512_S1x1x512 := rfl

/-- A row of 512 under two unit axes reads its own element. -/
theorem row_apply {α : Type} (f : S512.Idx → α) (a b : Fin 1) (t : Fin 512) :
    shapeCast S1x1x512 f shapeCasts_S512_S1x1x512 (ix3 a b t) = f (ix1 t) := by
  refine shapeCast_apply f _ _ _ ?_
  have ha : a.val = 0 := by omega
  have hb : b.val = 0 := by omega
  rw [Shape.rowMajor_val_one, Shape.rowMajor_val_three]; simp [ha, hb]

/-- The index a sum along the columns reads. -/
theorem lift_cols (t : Fin 512) (u : Fin 1024) : reduces_S512x1024_S512.lift (ix1 t) u = ix2 t u := by
  funext a
  match a with
  | ⟨0, _⟩ => rfl
  | ⟨1, _⟩ => rfl

/-- A sum along the columns, read at a token. -/
theorem sum_cols (f : FVec Ideal S512x1024 .f32) (t : Fin 512) :
    multiReduction .add [1] S512 f 0x00000000#32 reduces_S512x1024_S512 (.inl rfl) rfl (ix1 t) = ∑ u : Fin 1024, f (ix2 t u) :=
  (Ideal.multiReduction_add_single f _ _ _ _ (ix1 t)).trans (Finset.sum_congr rfl fun u _ => congrArg f (lift_cols t u))

theorem expSum_apply (x : Vec Ideal S512x1024 .f32) (w : Vec Ideal S1024x1024 .f32) (t : Fin 512) :
    expSum x w (ix1 t) = ∑ u : Fin 1024, Ideal.exp (k0_pay4 (F := Ideal) x w (ix2 t u)) :=
  sum_cols _ t

theorem pickSum_apply (off : BitVec 32) (l : Vec Ideal S512 .i32) (x : Vec Ideal S512x1024 .f32) (w : Vec Ideal S1024x1024 .f32) (t : Fin 512) :
    pickSum off l x w (ix1 t)
      = ∑ u : Fin 1024, if BitVec.ofNat 32 u.val = l (ix1 t) - off then k0_pay4 (F := Ideal) x w (ix2 t u) else 0 := by
  have hl : k0_pay1 (F := Ideal) l (ix2 t (0 : Fin 1)) = l (ix1 t) := by
    have h1 : shapeCast S512 l shapeCasts_S512_S512 = l := funext fun i => shapeCast_apply l _ i i rfl
    unfold k0_pay1
    rw [h1]
    exact shapeCast_apply l _ _ _ (by rw [Shape.rowMajor_val_one, Shape.rowMajor_val_two]; simp)
  refine (sum_cols _ t).trans (Finset.sum_congr rfl fun u _ => ?_)
  rw [select_apply]
  have hb : broadcastTo S512x1024 (subi (k0_pay1 (F := Ideal) l) (broadcast S512x1 off)) broadcasts_S512x1_S512x1024 (ix2 t u) = l (ix1 t) - off := by
    rw [broadcastTo_apply _ _ (ix2 t u) (ix2 t (0 : Fin 1)) (fun a => by match a with | ⟨0, _⟩ => rfl | ⟨1, _⟩ => rfl)]
    show k0_pay1 (F := Ideal) l (ix2 t (0 : Fin 1)) - off = _
    rw [hl]
  have hc : cmpi .eq (iota .tc S512x1024 32 [1] iota_S512x1024_d1_w32)
        (broadcastTo S512x1024 (subi (k0_pay1 (F := Ideal) l) (broadcast S512x1 off)) broadcasts_S512x1_S512x1024) (ix2 t u)
      = IntOp.cmpi .eq (BitVec.ofNat 32 u.val) (l (ix1 t) - off) := by
    show IntOp.cmpi .eq (iota .tc S512x1024 32 [1] iota_S512x1024_d1_w32 (ix2 t u)) _ = _
    rw [hb, iota_single_apply]
  rw [hc]
  by_cases h : BitVec.ofNat 32 u.val = l (ix1 t) - off
  · rw [if_pos h, show IntOp.cmpi .eq (BitVec.ofNat 32 u.val) (l (ix1 t) - off) = 1#1 from by rw [h]; simp [IntOp.cmpi]]
    rfl
  · rw [if_neg h, show IntOp.cmpi .eq (BitVec.ofNat 32 u.val) (l (ix1 t) - off) = 0#1 from by simp [IntOp.cmpi, beq_eq_false_iff_ne.mpr h]]
    exact Ideal.ofBits_zero_f32

/-! ## From real arguments -/

/-- The logit of token `t` at column `v`. -/
def logit (X : Fin 512 → Fin 1024 → ℝ) (W : Fin 1024 → Fin 32768 → ℝ) (t : Fin 512) (v : Fin 32768) : ℝ := ∑ d, X t d * W d v

/-- The loss of token `t` with label `b`. -/
def lossReal (X : Fin 512 → Fin 1024 → ℝ) (W : Fin 1024 → Fin 32768 → ℝ) (t : Fin 512) (b : Fin 32768) : ℝ :=
  Real.log (∑ v, Real.exp (logit X W t v)) - logit X W t b

section Piece

variable {X : Fin 512 → Fin 1024 → ℝ} {W : Fin 1024 → Fin 32768 → ℝ}
variable {x : Vec Ideal S512x1024 .f32} {w : Vec Ideal S1024x1024 .f32} {l : Vec Ideal S512 .i32} {j : Fin 4} {k : Fin 8}

theorem logit_real (hx : ∀ t d, x (ix2 t d) = (X t d : EReal)) (hw : ∀ d u, w (ix2 d u) = (W d (col j k u) : EReal)) (t : Fin 512) (u : Fin 1024) :
    k0_pay4 (F := Ideal) x w (ix2 t u) = (logit X W t (col j k u) : EReal) := by
  rw [logit_apply, logit, ← sum_real]
  exact Finset.sum_congr rfl fun d _ => by rw [hx, hw, EReal.coe_mul]

theorem expSum_real (hx : ∀ t d, x (ix2 t d) = (X t d : EReal)) (hw : ∀ d u, w (ix2 d u) = (W d (col j k u) : EReal)) (t : Fin 512) :
    expSum x w (ix1 t) = ((∑ u, Real.exp (logit X W t (col j k u)) : ℝ) : EReal) := by
  rw [expSum_apply, ← sum_real]
  exact Finset.sum_congr rfl fun u _ => by rw [logit_real hx hw, Ideal.exp_coe]

/-- The label's number, less the piece's first column, is the column's place in the piece exactly at the label's column. -/
theorem at_label (j : Fin 4) (k : Fin 8) (u : Fin 1024) (b : Fin 32768) :
    BitVec.ofNat 32 u.val = BitVec.ofNat 32 b.val - firstCol (BitVec.ofNat 32 j.val) (BitVec.ofNat 32 (1024 * k.val)) ↔ col j k u = b := by
  have := j.isLt; have := k.isLt; have := u.isLt; have := b.isLt
  have hf : firstCol (BitVec.ofNat 32 j.val) (BitVec.ofNat 32 (1024 * k.val)) = BitVec.ofNat 32 (8192 * j.val + 1024 * k.val) := by
    apply BitVec.eq_of_toNat_eq
    show (BitVec.ofNat 32 j.val * 8192#32 + BitVec.ofNat 32 (1024 * k.val)).toNat = _
    simp only [BitVec.toNat_add, BitVec.toNat_mul, BitVec.toNat_ofNat]
    omega
  rw [hf]
  constructor
  · intro h
    have h' := congrArg BitVec.toNat h
    simp only [BitVec.toNat_sub, BitVec.toNat_ofNat] at h'
    refine Fin.ext ?_
    simp only [col]
    omega
  · rintro rfl
    apply BitVec.eq_of_toNat_eq
    simp only [BitVec.toNat_sub, BitVec.toNat_ofNat, col]
    omega

theorem pickSum_real (hx : ∀ t d, x (ix2 t d) = (X t d : EReal)) (hw : ∀ d u, w (ix2 d u) = (W d (col j k u) : EReal))
    {t : Fin 512} {b : Fin 32768} (hl : l (ix1 t) = BitVec.ofNat 32 b.val) :
    pickSum (firstCol (BitVec.ofNat 32 j.val) (BitVec.ofNat 32 (1024 * k.val))) l x w (ix1 t)
      = ((∑ u, (if col j k u = b then logit X W t (col j k u) else 0) : ℝ) : EReal) := by
  rw [pickSum_apply, ← sum_real, hl]
  refine Finset.sum_congr rfl fun u _ => ?_
  by_cases h : col j k u = b
  · rw [if_pos h, if_pos ((at_label j k u b).mpr h), logit_real hx hw]
  · rw [if_neg h, if_neg (fun e => h ((at_label j k u b).mp e)), EReal.coe_zero]

end Piece

section Rows

variable {X : Fin 512 → Fin 1024 → ℝ} {W : Fin 1024 → Fin 32768 → ℝ}
variable {x : Vec Ideal S512x1024 .f32} {w : Fin 8 → Vec Ideal S1024x1024 .f32} {l : Vec Ideal S512 .i32} {j : Fin 4}

theorem expRow_real (hx : ∀ t d, x (ix2 t d) = (X t d : EReal)) (hw : ∀ k d u, w k (ix2 d u) = (W d (col j k u) : EReal))
    (a b : Fin 1) (t : Fin 512) :
    expRow x w (ix3 a b t) = ((∑ k, ∑ u, Real.exp (logit X W t (col j k u)) : ℝ) : EReal) := by
  rw [expRow_eq, row_apply]
  simp only [addf_apply]
  rw [expSum_real hx (hw 0), expSum_real hx (hw 1), expSum_real hx (hw 2), expSum_real hx (hw 3), expSum_real hx (hw 4),
    expSum_real hx (hw 5), expSum_real hx (hw 6), expSum_real hx (hw 7), Fin.sum_univ_eight]
  simp only [EReal.coe_add]

theorem pickRow_real (hx : ∀ t d, x (ix2 t d) = (X t d : EReal)) (hw : ∀ k d u, w k (ix2 d u) = (W d (col j k u) : EReal))
    (a b : Fin 1) {t : Fin 512} {v : Fin 32768} (hl : l (ix1 t) = BitVec.ofNat 32 v.val) :
    pickRow (BitVec.ofNat 32 j.val) l x w (ix3 a b t)
      = ((∑ k, ∑ u, (if col j k u = v then logit X W t (col j k u) else 0) : ℝ) : EReal) := by
  have h := fun k => pickSum_real (k := k) hx (hw k) hl
  rw [pickRow_eq, row_apply]
  simp only [addf_apply]
  rw [Fin.sum_univ_eight]
  simp only [EReal.coe_add]
  rw [← h 0, ← h 1, ← h 2, ← h 3, ← h 4, ← h 5, ← h 6, ← h 7]
  rfl

end Rows

/-! ## The loss from the exchange buffer -/

/-- The index a sum over the devices reads. -/
theorem lift_devs (t : Fin 512) (j : Fin 4) : reduces_S4x512_S512.lift (ix1 t) j = ix2 j t := by
  funext a
  match a with
  | ⟨0, _⟩ => rfl
  | ⟨1, _⟩ => rfl

theorem sum_devs (f : FVec Ideal S4x512 .f32) (t : Fin 512) :
    multiReduction .add [0] S512 f 0x00000000#32 reduces_S4x512_S512 (.inl rfl) rfl (ix1 t) = ∑ j : Fin 4, f (ix2 j t) :=
  (Ideal.multiReduction_add_single f _ _ _ _ (ix1 t)).trans (Finset.sum_congr rfl fun j _ => congrArg f (lift_devs t j))

/-- One row of statistics of each device, as a 4 by 512 array. -/
theorem stat_apply {α : Type} (f : S4x1x512.Idx → α) (j : Fin 4) (t : Fin 512) :
    shapeCast S4x512 f shapeCasts_S4x1x512_S4x512 (ix2 j t) = f (ix3 j (0 : Fin 1) t) :=
  shapeCast_apply f _ _ _ (by rw [Shape.rowMajor_val_two, Shape.rowMajor_val_three]; simp)

/-- The loss: the logarithm of the devices' first rows added up, less their second rows added up. -/
theorem loss_apply (s : Vec Ideal S4x2x512 .f32) (t : Fin 512) :
    k0_pay24 (F := Ideal) s (ix1 t)
      = Ideal.log (∑ j : Fin 4, s (ix3 j (0 : Fin 2) t)) - ∑ j : Fin 4, s (ix3 j (1 : Fin 2) t) := by
  unfold k0_pay24
  rw [subf_apply]
  refine congrArg₂ (fun p q : EReal => Ideal.log p - q) ?_ ?_
  · refine (sum_devs _ t).trans (Finset.sum_congr rfl fun j _ => ?_)
    rw [stat_apply]
    exact extractStridedSlice_apply _ _ _ _ _ fun a => by match a with | ⟨0, _⟩ => simp | ⟨1, _⟩ => rfl | ⟨2, _⟩ => simp
  · refine (sum_devs _ t).trans (Finset.sum_congr rfl fun j _ => ?_)
    rw [stat_apply]
    exact extractStridedSlice_apply _ _ _ _ _ fun a => by match a with | ⟨0, _⟩ => simp | ⟨1, _⟩ => rfl | ⟨2, _⟩ => simp

/-- A device's number as the kernel forms it. -/
theorem devWord_eq (c : Dev nD) : devWord c = BitVec.ofNat 32 c.val := by
  revert c
  decide

/-- From real arguments the kernel's result is the loss. -/
theorem lossOf_real {X : Fin 512 → Fin 1024 → ℝ} {W : Fin 1024 → Fin 32768 → ℝ} {m : (ℓ : Loc nD τ sig) → Buf (Elt Ideal) ℓ}
    (hx : ∀ c t d, xOf m c (ix2 t d) = (X t d : EReal)) (hw : ∀ (c : Dev nD) k d u, pieceOf m c k (ix2 d u) = (W d (col c k u) : EReal))
    {t : Fin 512} {b : Fin 32768} (hl : ∀ c, labOf m c (ix1 t) = BitVec.ofNat 32 b.val) :
    lossOf m (ix1 t) = (lossReal X W t b : EReal) := by
  have h0 : ∀ j : Fin 4, full m (ix3 j (0 : Fin 2) t) = ((∑ k, ∑ u, Real.exp (logit X W t (col j k u)) : ℝ) : EReal) := fun j => by
    refine (show full m (ix3 j (0 : Fin 2) t) = expRow (xOf m j) (pieceOf m j) (ix3 (0 : Fin 1) (0 : Fin 1) t) from ?_).trans
      (expRow_real (hx j) (hw j) 0 0 t)
    rfl
  have h1 : ∀ j : Fin 4, full m (ix3 j (1 : Fin 2) t)
      = ((∑ k, ∑ u, (if col j k u = b then logit X W t (col j k u) else 0) : ℝ) : EReal) := fun j => by
    refine (show full m (ix3 j (1 : Fin 2) t) = pickRow (devWord j) (labOf m j) (xOf m j) (pieceOf m j) (ix3 (0 : Fin 1) (0 : Fin 1) t) from ?_).trans ?_
    · rfl
    · rw [devWord_eq]
      exact pickRow_real (hx j) (hw j) 0 0 (hl j)
  unfold lossOf
  rw [loss_apply, Finset.sum_congr rfl fun j _ => h0 j, Finset.sum_congr rfl fun j _ => h1 j, sum_real, sum_real,
    sum_col fun v => Real.exp (logit X W t v), sum_col fun v => if v = b then logit X W t v else 0, log_of_sum (by decide),
    ← EReal.coe_sub, Finset.sum_ite_eq' Finset.univ b, if_pos (Finset.mem_univ b), lossReal]

end Cert.LossProof

end
-- ==== Proof.ValueReference.lean ====
/-
# What the reference computes, at the ideal values

The reference's result, from real arguments, is the logarithm of the sum of the exponentials of a token's logits less
the logit at the token's label.
-/
module

public import proofs.«01_k».proof.Proof.ValueKernel
public import proofs.«01_k».proof.Proof.Gen.ReferenceIdeal
public import proofs.«01_k».proof.Proof.Gen.ReferenceIdeal.Run
public import Idealize.ShloMosaic.Lib.IdealHost
public import Idealize.ShloMosaic.Lib.StableHlo.Predicate

@[expose] public section

noncomputable section

namespace Cert.LossProof.Ref

open Cert.ReferenceIdeal Cert.ReferenceIdeal.Gen
open Idealize.ShloMosaic Idealize.ShloMosaic.ValueIdx
open Cert.LossProof (sum_real largest_real log_sum_exp log_of_sum logit lossReal)

/-- All logits. -/
abbrev logits (x : FVec Ideal S512x1024 .f32) (w : FVec Ideal S1024x32768 .f32) : FVec Ideal S512x32768 .f32 :=
  Host.dotGeneral dot_S512x1024_S1024x32768_S512x32768_1_0_0_1_n_n none x w

theorem logits_apply (x : FVec Ideal S512x1024 .f32) (w : FVec Ideal S1024x32768 .f32) (t : Fin 512) (v : Fin 32768) :
    logits x w (ix2 t v) = ∑ d : Fin 1024, x (ix2 t d) * w (ix2 d v) := by
  have h := Ideal.matmul_plain_apply (M := 512) (K := 1024) (N := 32768) none x w (fun _ => (0 : EReal)) t v
  rw [zero_add] at h
  refine Eq.trans ?_ h
  simp only [logits, Host.dotGeneral]
  rw [Ideal.dotGeneral_apply, Ideal.matmul_apply, zero_add]
  rfl

/-- The largest logit of each token. -/
abbrev largest (L : FVec Ideal S512x32768 .f32) : FVec Ideal S512 .f32 :=
  Host.reduce FloatOps.maximumf L (constant S_ .f32 0xFF800000#32) reducesTo_S512x32768_S512_d1 h_S_

/-- The index a reduction along the columns reads. -/
theorem reduces_cols : S512x32768.Reduces [1] S512 := by decide
theorem lift_cols (t : Fin 512) (v : Fin 32768) : reduces_cols.lift (ix1 t) v = ix2 t v := by
  funext a
  match a with
  | ⟨0, _⟩ => rfl
  | ⟨1, _⟩ => rfl

/-- The pattern of negative infinity is the least extended real. -/
theorem neg_inf : Ideal.ofBits .f32 0xFF800000#32 = (⊥ : EReal) := by simp [Ideal.ofBits, Ideal.ieee]

theorem largest_apply (L : FVec Ideal S512x32768 .f32) (t : Fin 512) :
    largest L (ix1 t) = (Finset.univ : Finset (Fin 32768)).fold max (⊥ : EReal) (fun v => L (ix2 t v)) := by
  refine (Host.reduce_eq_fold_single _ L _ _ reduces_cols _ (ix1 t)).trans ?_
  rw [show (L ∘ reduces_cols.lift (ix1 t)) = fun v : Fin 32768 => L (ix2 t v) from funext fun v => congrArg L (lift_cols t v)]
  show (Finset.univ : Finset (Fin 32768)).fold max (Ideal.ofBits .f32 0xFF800000#32) _ = _
  rw [neg_inf]

/-- A vector as a column, read at a token. -/
theorem column_apply {α : Type} (f : S512.Idx → α) (t : Fin 512) (z : Fin 1) :
    broadcastInDim S512x1 ![0] bcast_S512_S512x1_0 f (ix2 t z) = f (ix1 t) :=
  broadcastInDim_apply _ _ _ _ _ fun a => by match a with | ⟨0, _⟩ => rfl

/-- A column spread over the columns. -/
theorem spread_apply {α : Type} (f : S512x1.Idx → α) (t : Fin 512) (v : Fin 32768) :
    broadcastInDim S512x32768 ![0, 1] bcast_S512x1_S512x32768_0_1 f (ix2 t v) = f (ix2 t (0 : Fin 1)) :=
  broadcastInDim_apply _ _ _ _ _ fun a => by match a with | ⟨0, _⟩ => rfl | ⟨1, _⟩ => rfl

/-- A column as a vector, read at a token. -/
theorem vector_apply {α : Type} (f : S512x1.Idx → α) (t : Fin 512) :
    shapeCast S512 f shapeCasts_S512x1_S512 (ix1 t) = f (ix2 t (0 : Fin 1)) :=
  shapeCast_apply f _ _ _ (by rw [Shape.rowMajor_val_one, Shape.rowMajor_val_two]; simp)

/-- The exponentials of the logits less their largest, summed. -/
abbrev expTotal (L : FVec Ideal S512x32768 .f32) (M : FVec Ideal S512 .f32) : FVec Ideal S512 .f32 :=
  Host.reduceAdd (Host.exp (subf L (broadcastInDim S512x32768 ![0, 1] bcast_S512x1_S512x32768_0_1
    (broadcastInDim S512x1 ![0] bcast_S512_S512x1_0 M)))) (constant S_ .f32 0x00000000#32) reducesTo_S512x32768_S512_d1 h_S_

theorem expTotal_apply (L : FVec Ideal S512x32768 .f32) (M : FVec Ideal S512 .f32) (t : Fin 512) :
    expTotal L M (ix1 t) = ∑ v : Fin 32768, Ideal.exp (L (ix2 t v) - M (ix1 t)) := by
  rw [expTotal, hostReduceAdd_apply]
  refine (Ideal.hostReduceAdd_single _ reduces_cols _ _ (ix1 t)).trans ?_
  show Ideal.ofBits .f32 0x00000000#32 + _ = _
  rw [Ideal.ofBits_zero_f32, zero_add]
  refine Finset.sum_congr rfl fun (v : Fin 32768) _ => ?_
  refine (congrArg (Host.exp (subf L (broadcastInDim S512x32768 ![0, 1] bcast_S512x1_S512x32768_0_1
    (broadcastInDim S512x1 ![0] bcast_S512_S512x1_0 M)))) (lift_cols t v)).trans ?_
  show Ideal.exp (L (ix2 t v) - broadcastInDim S512x32768 ![0, 1] bcast_S512x1_S512x32768_0_1
    (broadcastInDim S512x1 ![0] bcast_S512_S512x1_0 M) (ix2 t v)) = _
  rw [spread_apply, column_apply]

/-- An index with a negative one counted from the end. -/
abbrev wrapped (a : IVec S512 32) (n : BitVec 32) : IVec S512 32 :=
  select (cmpi .slt a (broadcastInDim S512 ![] bcast_S_S512 (constantI S_ 32 0#32)))
    (addi a (broadcastInDim S512 ![] bcast_S_S512 (constantI S_ 32 n))) a

/-- No negative index, nothing changes. -/
theorem wrapped_apply (a : IVec S512 32) (n : BitVec 32) (t : Fin 512) (h : (a (ix1 t)).toNat < 2 ^ 31) : wrapped a n (ix1 t) = a (ix1 t) := by
  have hs : IntOp.cmpi .slt (a (ix1 t)) 0#32 = 0#1 := eq_zero_of_ne_one fun e => by
    have := (Idealize.ShloMosaic.StableHlo.Predicate.slt_iff_toNat h (by decide)).mp e
    simp at this
  show Scalar.select (IntOp.cmpi .slt (a (ix1 t)) 0#32) _ _ = _
  rw [hs, select_zero]

/-- The token's number beside the token's label. -/
abbrev pairs (l : IVec S512 32) : IVec S512x2 32 :=
  concatenate S512x2 1 [⟨S512x1, broadcastInDim S512x1 ![0] bcast_S512_S512x1_0 (wrapped (iotaInDim S512 32 0) 512#32)⟩,
    ⟨S512x1, broadcastInDim S512x1 ![0] bcast_S512_S512x1_0 (wrapped l 32768#32)⟩] concatenates_S512x1_S512x1_S512x2_d1

theorem pairs_token (l : IVec S512 32) (t : Fin 512) : pairs l (ix2 t (0 : Fin 2)) = BitVec.ofNat 32 t.val := by
  rw [pairs, concatenate_pair_apply_left (t := S512x2) (s₁ := S512x1) (s₂ := S512x1) 1 _ _ _ (ix2 t (0 : Fin 2)) rfl (ix2 t (0 : Fin 1))
    (fun b => by match b with | ⟨0, _⟩ => rfl | ⟨1, _⟩ => rfl), column_apply, wrapped_apply _ _ _ ?_]
  · rfl
  · have := t.isLt
    show (BitVec.ofNat 32 t.val).toNat < _
    rw [BitVec.toNat_ofNat]
    omega

theorem pairs_label (l : IVec S512 32) (t : Fin 512) (h : (l (ix1 t)).toNat < 2 ^ 31) : pairs l (ix2 t (1 : Fin 2)) = l (ix1 t) := by
  rw [pairs, concatenate_pair_apply_right (t := S512x2) (s₁ := S512x1) (s₂ := S512x1) 1 _ _ _ (ix2 t (1 : Fin 2)) rfl rfl (ix2 t (0 : Fin 1))
    (fun b hb => by match b with | ⟨0, _⟩ => rfl | ⟨1, _⟩ => exact absurd rfl hb) rfl, column_apply, wrapped_apply _ _ _ h]

/-- Taking one element per pair, where the pairs are in range. -/
theorem take_apply {α : Type} (f : S512x32768.Idx → α) (p : IVec S512x2 32) (t r : Fin 512) (v : Fin 32768)
    (hr : p (ix2 t (0 : Fin 2)) = BitVec.ofNat 32 r.val) (hv : p (ix2 t (1 : Fin 2)) = BitVec.ofNat 32 v.val) :
    Host.gather gather_S512x32768_S512x2_S512_n_01_n_n_01_1_11 f p (ix1 t) = f (ix2 r v) := by
  have hc : ∀ (n N : ℕ), n < N → N ≤ 32768 → min (BitVec.ofNat 32 n).toInt.toNat (N - 1) = n := fun n N h1 h2 => by
    rw [Idealize.ShloMosaic.StableHlo.Predicate.toInt_ofNat_small n (by omega)]
    simp
    omega
  unfold Host.gather
  congr 1
  funext a
  refine Fin.ext ?_
  show gather_S512x32768_S512x2_S512_n_01_n_n_01_1_11.start (ix1 t) p a + gather_S512x32768_S512x2_S512_n_01_n_n_01_1_11.batchCoord (ix1 t) a
    + gather_S512x32768_S512x2_S512_n_01_n_n_01_1_11.offCoord (ix1 t) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (show (0 : Fin 2) ∈ ([0, 1] : List (Fin 2)) by decide))]
    simp only [Nat.add_zero]
    unfold GatherDims.start
    rw [dif_pos (show (0 : Fin 2) ∈ gather_S512x32768_S512x2_S512_n_01_n_n_01_1_11.startIndexMap from (show (0 : Fin 2) ∈ ([0, 1] : List (Fin 2)) by decide))]
    have hsi : gather_S512x32768_S512x2_S512_n_01_n_n_01_1_11.siIdx (ix1 t) (⟨0, by decide⟩ : Fin 2) = ix2 t (0 : Fin 2) := by
      funext b
      match b with
      | ⟨0, _⟩ => rfl
      | ⟨1, _⟩ => rfl
    show min (p (gather_S512x32768_S512x2_S512_n_01_n_n_01_1_11.siIdx (ix1 t) (⟨0, by decide⟩ : Fin 2))).toInt.toNat (512 - 1) = r.val
    rw [hsi, hr]
    exact hc _ _ r.isLt (by decide)
  · rw [GatherDims.batchCoord_eq_zero _ _ _ List.not_mem_nil,
      GatherDims.offCoord_eq_zero _ _ _ (fun h => ((GatherDims.mem_sKept _ _).mp h).1 (show (1 : Fin 2) ∈ ([0, 1] : List (Fin 2)) by decide))]
    simp only [Nat.add_zero]
    unfold GatherDims.start
    rw [dif_pos (show (1 : Fin 2) ∈ gather_S512x32768_S512x2_S512_n_01_n_n_01_1_11.startIndexMap from (show (1 : Fin 2) ∈ ([0, 1] : List (Fin 2)) by decide))]
    have hsi : gather_S512x32768_S512x2_S512_n_01_n_n_01_1_11.siIdx (ix1 t) (⟨1, by decide⟩ : Fin 2) = ix2 t (1 : Fin 2) := by
      funext b
      match b with
      | ⟨0, _⟩ => rfl
      | ⟨1, _⟩ => rfl
    show min (p (gather_S512x32768_S512x2_S512_n_01_n_n_01_1_11.siIdx (ix1 t) (⟨1, by decide⟩ : Fin 2))).toInt.toNat (32768 - 1) = v.val
    rw [hsi, hv]
    exact hc _ _ v.isLt (by decide)

/-- The last operations, read at a token. -/
theorem combine_apply (M E P : FVec Ideal S512 .f32) (t : Fin 512) :
    subf (shapeCast S512 (addf (broadcastInDim S512x1 ![0] bcast_S512_S512x1_0 M)
      (Host.log (broadcastInDim S512x1 ![0] bcast_S512_S512x1_0 E))) shapeCasts_S512x1_S512) P (ix1 t)
      = (M (ix1 t) + Ideal.log (E (ix1 t))) - P (ix1 t) := by
  rw [subf_apply, vector_apply, addf_apply, column_apply]
  refine congrArg (fun z : EReal => M (ix1 t) + Ideal.log z - P (ix1 t)) ?_
  exact column_apply E t 0

/-- The reference's result. -/
abbrev result (x : FVec Ideal S512x1024 .f32) (w : FVec Ideal S1024x32768 .f32) (l : IVec S512 32) : FVec Ideal S512 .f32 :=
  subf (shapeCast S512 (addf (broadcastInDim S512x1 ![0] bcast_S512_S512x1_0 (largest (logits x w)))
      (Host.log (broadcastInDim S512x1 ![0] bcast_S512_S512x1_0 (expTotal (logits x w) (largest (logits x w)))))) shapeCasts_S512x1_S512)
    (Host.gather gather_S512x32768_S512x2_S512_n_01_n_n_01_1_11 (logits x w) (pairs l))

theorem result_apply (x : FVec Ideal S512x1024 .f32) (w : FVec Ideal S1024x32768 .f32) (l : IVec S512 32) (t : Fin 512) (b : Fin 32768)
    (hl : l (ix1 t) = BitVec.ofNat 32 b.val) :
    result x w l (ix1 t) = (largest (logits x w) (ix1 t) + Ideal.log (expTotal (logits x w) (largest (logits x w)) (ix1 t)))
      - logits x w (ix2 t b) := by
  have hb : (l (ix1 t)).toNat < 2 ^ 31 := by
    have := b.isLt
    rw [hl, BitVec.toNat_ofNat]
    omega
  rw [← take_apply (logits x w) (pairs l) t t b (pairs_token l t) ((pairs_label l t hb).trans hl)]
  exact combine_apply _ _ _ t

/-- From real arguments the reference's result is the loss. -/
theorem result_real {X : Fin 512 → Fin 1024 → ℝ} {W : Fin 1024 → Fin 32768 → ℝ} {x : FVec Ideal S512x1024 .f32} {w : FVec Ideal S1024x32768 .f32}
    {l : IVec S512 32} (hx : ∀ t d, x (ix2 t d) = (X t d : EReal)) (hw : ∀ d v, w (ix2 d v) = (W d v : EReal))
    {t : Fin 512} {b : Fin 32768} (hl : l (ix1 t) = BitVec.ofNat 32 b.val) :
    result x w l (ix1 t) = (lossReal X W t b : EReal) := by
  have hL : ∀ v, logits x w (ix2 t v) = (logit X W t v : EReal) := fun v => by
    rw [logits_apply, logit, ← sum_real]
    exact Finset.sum_congr rfl fun d _ => by rw [hx, hw, EReal.coe_mul]
  obtain ⟨r, hr⟩ := largest_real (n := 32768) (by decide) fun v => logit X W t v
  have hM : largest (logits x w) (ix1 t) = (r : EReal) := by
    rw [largest_apply, show (fun v => logits x w (ix2 t v)) = fun v => (logit X W t v : EReal) from funext hL, hr]
  have hE : expTotal (logits x w) (largest (logits x w)) (ix1 t) = ((∑ v, Real.exp (logit X W t v - r) : ℝ) : EReal) := by
    rw [expTotal_apply, ← sum_real, hM]
    exact Finset.sum_congr rfl fun v _ => by rw [hL, ← EReal.coe_sub, Ideal.exp_coe]
  rw [result_apply x w l t b hl, hE, hM, hL, log_of_sum (by decide) fun v => logit X W t v - r, ← EReal.coe_add, ← EReal.coe_sub,
    log_sum_exp (by decide), lossReal]

end Cert.LossProof.Ref

end
-- ==== Proof.Value.lean ====
/-
# The kernel computes the reference's loss

The precondition says that the tokens and the weights are real numbers and the labels are column numbers. Under it the
kernel's result and the reference's are one array.
-/
module

public import proofs.«01_k».proof.Proof.Frames
public import proofs.«01_k».proof.Proof.ValueReference
public import proofs.«01_k».proof.Proof.Gen.Pre_finite_and_in_vocabulary_KernelIdeal

@[expose] public section

noncomputable section

namespace Cert.LossProof

open Idealize.ShloMosaic Idealize.ShloMosaic.ValueIdx
open Idealize.ShloMosaic.TcCoe
open Idealize.SL Idealize.SL.Sem
open Idealize.ShloMosaic.StableHlo.Predicate (ofBool_eq_one_iff)

/-! ## The precondition read -/

/-- The pattern of infinity is the greatest extended real. -/
theorem pos_inf : Ideal.ofBits .f32 0x7F800000#32 = (⊤ : EReal) := by simp [Ideal.ofBits, Ideal.ieee]

/-- An extended real of absolute value below infinity is a real. -/
theorem real_of_abs_lt {a : EReal} (h : Ideal.cmp .olt (max a (-a)) ⊤ = 1#1) : ∃ r : ℝ, a = (r : EReal) := by
  have h' : max a (-a) < ⊤ := by simpa [Ideal.cmp, ofBool_eq_one_iff] using h
  induction a using EReal.rec with
  | bot => simp at h'
  | top => simp at h'
  | coe r => exact ⟨r, rfl⟩

/-- A word that is at least zero and below 32768 is a column's number. -/
theorem column_of_between {a : BitVec 32} (h : IntOp.andi (IntOp.cmpi .sge a 0#32) (IntOp.cmpi .slt a 32768#32) = 1#1) :
    ∃ b : Fin 32768, a = BitVec.ofNat 32 b.val := by
  have hb : ∀ p q : BitVec 1, IntOp.andi p q = 1#1 → p = 1#1 ∧ q = 1#1 := by decide
  obtain ⟨h1, h2⟩ := hb _ _ h
  have h1' : (0#32).sle a = true := (ofBool_eq_one_iff _).mp h1
  have h2' : a.slt 32768#32 = true := (ofBool_eq_one_iff _).mp h2
  have hn : a.toNat < 32768 := by
    rw [BitVec.sle_eq_decide, decide_eq_true_iff] at h1'
    rw [BitVec.slt_eq_decide, decide_eq_true_iff] at h2'
    have e0 : (0#32).toInt = 0 := by decide
    have e1 : (32768#32).toInt = 32768 := by decide
    rw [e0, BitVec.toInt_eq_toNat_cond a] at h1'
    rw [e1, BitVec.toInt_eq_toNat_cond a] at h2'
    have := a.isLt
    split at h1' <;> omega
  exact ⟨⟨a.toNat, hn⟩, by simp⟩

section Pre

open Cert.Pre_finite_and_in_vocabulary_KernelIdeal

variable {x : FVec Ideal S512x1024 .f32} {w : FVec Ideal S1024x8192 .f32} {l : IVec S512 32}

theorem x_real (h : (fn (F := Ideal) x w l).1 = fun _ => 1#1) (i : S512x1024.Idx) : ∃ r : ℝ, x i = (r : EReal) := by
  refine real_of_abs_lt ?_
  rw [← pos_inf]
  exact congrFun h i

theorem w_real (h : (fn (F := Ideal) x w l).2.1 = fun _ => 1#1) (i : S1024x8192.Idx) : ∃ r : ℝ, w i = (r : EReal) := by
  refine real_of_abs_lt ?_
  rw [← pos_inf]
  exact congrFun h i

theorem l_column (h : (fn (F := Ideal) x w l).2.2 = fun _ => 1#1) (i : S512.Idx) : ∃ b : Fin 32768, l i = BitVec.ofNat 32 b.val :=
  column_of_between (congrFun h i)

end Pre

/-! ## The pieces of the weights -/

section Pieces

open Cert.KernelIdeal Cert.KernelIdeal.Gen

variable {F : FTy → Type} [FloatOps F]

/-- A piece read at its row and column is the device's block there. -/
theorem piece_apply (m : (ℓ : Loc nD τ sig) → Buf (Elt F) ℓ) (c : Dev nD) (k : Fin 8) (d u : Fin 1024) :
    pieceOf m c k (ix2 d u)
      = (m ((c : Thread nD τ).loc main_arg1) : S1024x8192.Idx → F .f32) (ix2 d ⟨1024 * k.val + u.val, by have := k.isLt; have := u.isLt; omega⟩) := by
  show (m ((c : Thread nD τ).loc main_arg1) : S1024x8192.Idx → F .f32) ((colRect k).emb (ix2 d u)) = _
  refine congrArg _ (funext fun a => Fin.ext ?_)
  match a with
  | ⟨0, _⟩ => show 0 + 1 * d.val = d.val; omega
  | ⟨1, _⟩ => show 1024 * k.val + 1 * u.val = 1024 * k.val + u.val; omega

end Pieces

/-- A block of the whole weights, read at its row and column. -/
theorem block_cols (w : (⟨2, ![1024, 32768]⟩ : Shape).Idx → EReal) (c : Fin 4) (k : Fin 8) (d u : Fin 1024) :
    Layout.block ⟨2, ![1024, 8192]⟩ ⟨2, ![1024, 32768]⟩ 1 4 c w (by decide)
        (ix2 d ⟨1024 * k.val + u.val, by have := k.isLt; have := u.isLt; omega⟩)
      = w (ix2 d (col c k u)) := by
  rw [Layout.block_apply]
  refine congrArg w (funext fun a => Fin.ext ?_)
  rw [Layout.Tiles.idx_val]
  match a with
  | ⟨0, _⟩ => rfl
  | ⟨1, _⟩ => show c.val * 8192 + (1024 * k.val + u.val) = 8192 * c.val + 1024 * k.val + u.val; omega

/-! ## The claim -/

/-- From arguments meeting the precondition the kernel's result is the reference's. -/
theorem same_loss {m : (ℓ : Loc Cert.KernelIdeal.nD Cert.KernelIdeal.τ Cert.KernelIdeal.sig) → Buf (Elt Ideal) ℓ}
    {x : FVec Ideal Cert.ReferenceIdeal.S512x1024 .f32} {w : FVec Ideal Cert.ReferenceIdeal.S1024x32768 .f32} {l : IVec Cert.ReferenceIdeal.S512 32}
    (hm : Cert.Pre_KernelIdeal_finite_and_in_vocabulary_KernelIdeal m)
    (hx : ∀ c : Dev Cert.KernelIdeal.nD, m ((c : Thread Cert.KernelIdeal.nD Cert.KernelIdeal.τ).loc Cert.KernelIdeal.main_arg0) = x)
    (hw : ∀ c : Dev Cert.KernelIdeal.nD, m ((c : Thread Cert.KernelIdeal.nD Cert.KernelIdeal.τ).loc Cert.KernelIdeal.main_arg1)
      = Layout.block ⟨2, ![1024, 8192]⟩ ⟨2, ![1024, 32768]⟩ 1 4 c w)
    (hl : ∀ c : Dev Cert.KernelIdeal.nD, m ((c : Thread Cert.KernelIdeal.nD Cert.KernelIdeal.τ).loc Cert.KernelIdeal.main_arg2) = l) :
    lossOf m = Ref.result x w l := by
  have ex : ∀ (t : Fin 512) (d : Fin 1024), ∃ r : ℝ, x (ix2 t d) = (r : EReal) := fun t d => by
    rw [← hx 0]; exact x_real (hm 0).1 _
  have ew : ∀ (d : Fin 1024) (v : Fin 32768), ∃ r : ℝ, w (ix2 d v) = (r : EReal) := fun d v => by
    obtain ⟨⟨⟨c, k⟩, u⟩, rfl⟩ := colEquiv.surjective v
    obtain ⟨r, hr⟩ := w_real (hm c).2.1 (ix2 d ⟨1024 * k.val + u.val, by have := k.isLt; have := u.isLt; omega⟩)
    exact ⟨r, ((block_cols w c k d u).symm.trans (congrFun (hw c).symm _)).trans hr⟩
  have el : ∀ t : Fin 512, ∃ b : Fin 32768, l (ix1 t) = BitVec.ofNat 32 b.val := fun t => by
    rw [← hl 0]; exact l_column (hm 0).2.2 _
  choose X hX using ex
  choose W hW using ew
  choose B hB using el
  funext i
  rw [eq_ix1 i]
  refine (lossOf_real (X := X) (W := W) (b := B (i 0)) (fun c t d => ?_) (fun c k d u => ?_) (fun c => ?_)).trans (Ref.result_real hX hW (hB (i 0))).symm
  · rw [xOf_eq, hx c]; exact hX t d
  · rw [piece_apply, hw c]; exact (block_cols w c k d u).trans (hW d _)
  · rw [labOf_eq, hl c]; exact hB (i 0)

theorem algebraic_loss : Cert.algebraic_KernelIdeal_ReferenceIdeal_pre_finite_and_in_vocabulary_KernelIdeal :=
  fun m g m' g' hm hargs =>
    ⟨lossOf m,
      (θ_run Cert.KernelIdeal.defs _ _).mono (fun _ h => h.1) (run_end (F := Ideal) m g),
      (θ_run Cert.ReferenceIdeal.defs _ _).mono
        (fun _ h => ⟨((h 0).1).trans (same_loss hm (fun c => (hargs c).1) (fun c => (hargs c).2.1) (fun c => (hargs c).2.2)).symm, (h 0).2⟩)
        (Cert.ReferenceIdeal.Value.run (F := Ideal) m' g')⟩

end Cert.LossProof

end
-- ==== Proof.lean ====
/-
# The certificate of the distributed cross-entropy kernel
-/
module

public import proofs.«01_k».proof.Defs
public import proofs.«01_k».proof.Proof.Frames
public import proofs.«01_k».proof.Proof.Value
public import proofs.«01_k».proof.Proof.Gen.Pre_finite_and_in_vocabulary_KernelIdeal
public import proofs.«01_k».proof.Proof.Gen.Pre_finite_and_in_vocabulary_ReferenceIdeal

@[expose] public section

noncomputable section

namespace Cert.Proof

open Cert.LossProof

theorem claim : Cert.Claim :=
  ⟨Cert.Kernel.Gen.facts, Cert.KernelIdeal.Gen.facts, Cert.ReferenceIdeal.Gen.facts,
    Cert.Pre_finite_and_in_vocabulary_KernelIdeal.Gen.facts, Cert.Pre_finite_and_in_vocabulary_ReferenceIdeal.Gen.facts,
    frame_compiled, frame_idealized, fun m g _ => frame_idealized m g trivial,
    frame_reference, fun m g _ => frame_reference m g trivial, trivial, algebraic_loss⟩

end Cert.Proof

end
